-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rounding_up_fits [hPre_rounding_up_fits : Cert.Pre_rounding_up_fits.Facts] (m : (ℓ : Loc Cert.KernelIdeal.nD Cert.KernelIdeal.τ Cert.KernelIdeal.sig) → Buf (Elt Ideal) ℓ) : Prop :=
  ∀ c : Dev Cert.KernelIdeal.nD,
    (Cert.Pre_rounding_up_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rounding_up_fits [hPre_rounding_up_fits : Cert.Pre_rounding_up_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rounding_up_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_rounding_up_fits [hKernelIdeal : Cert.KernelIdeal.Facts] [hPre_rounding_up_fits : Cert.Pre_rounding_up_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rounding_up_fits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_rounding_up_fits [hReferenceIdeal : Cert.ReferenceIdeal.Facts] [hPre_rounding_up_fits : Cert.Pre_rounding_up_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rounding_up_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_rounding_up_fits [hKernelIdeal : Cert.KernelIdeal.Facts] [hReferenceIdeal : Cert.ReferenceIdeal.Facts] [hPre_rounding_up_fits : Cert.Pre_rounding_up_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rounding_up_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_rounding_up_fits : Cert.Pre_rounding_up_fits.Facts),
    quiescent_Kernel (hKernel := hKernel)
    ∧ quiescent_KernelIdeal (hKernelIdeal := hKernelIdeal)
    ∧ quiescent_KernelIdeal_pre_rounding_up_fits (hKernelIdeal := hKernelIdeal) (hPre_rounding_up_fits := hPre_rounding_up_fits)
    ∧ quiescent_ReferenceIdeal (hReferenceIdeal := hReferenceIdeal)
    ∧ quiescent_ReferenceIdeal_pre_rounding_up_fits (hReferenceIdeal := hReferenceIdeal) (hPre_rounding_up_fits := hPre_rounding_up_fits)
    ∧ preserves_Kernel_KernelIdeal
    ∧ algebraic_KernelIdeal_ReferenceIdeal_pre_rounding_up_fits (hKernelIdeal := hKernelIdeal) (hReferenceIdeal := hReferenceIdeal) (hPre_rounding_up_fits := hPre_rounding_up_fits)
-- ==== Pre_rounding_up_fits.lean ====
abbrev S4x8192x40x128 : Shape := ⟨4, ![4, 8192, 40, 128]⟩
abbrev S4x8192x40 : Shape := ⟨3, ![4, 8192, 40]⟩
abbrev S4x8192x8x128 : Shape := ⟨4, ![4, 8192, 8, 128]⟩
abbrev S4x8192x8 : Shape := ⟨3, ![4, 8192, 8]⟩
abbrev S128 : Shape := ⟨1, ![128]⟩
abbrev S4x8192 : Shape := ⟨2, ![4, 8192]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S4x8192x40x128 .fp8e5m2) (main_arg1 : FVec F S4x8192x40 .f32) (main_arg2 : FVec F S4x8192x8x128 .fp8e5m2) (main_arg3 : FVec F S4x8192x8 .f32) (main_arg4 : FVec F S4x8192x40x128 .fp8e4m3) (main_arg5 : FVec F S4x8192x40 .f32) (main_arg6 : FVec F S4x8192x8x128 .fp8e4m3) (main_arg7 : FVec F S4x8192x8 .f32) (main_arg8 : FVec F S128 .f32) (main_arg9 : FVec F S128 .f32) (main_arg10 : IVec S4x8192 32) (main_arg11 : IVec S4 32) : IVec S_ 1 :=
  let main_c : IVec S_ 32 := constantI S_ 32 2147483584#32
  let main_v0 : IVec S4 32 := broadcastInDim S4 ![] bcast_S_S4 main_c
  let main_v1 : IVec S4 1 := cmpi .sle main_arg11 main_v0
  let main_c_0 : IVec S_ 1 := constantI S_ 1 1#1
  let main_v2 : IVec S_ 1 := (fun x v => Host.reduce IntOp.andi x v reducesTo_S4_S_d0 h_S_) main_v1 main_c_0
  main_v2
-- ==== Kernel.lean ====
abbrev S4x8192x40x128 : Shape := ⟨4, ![4, 8192, 40, 128]⟩
abbrev S4x8192x40 : Shape := ⟨3, ![4, 8192, 40]⟩
abbrev S4x8192x8x128 : Shape := ⟨4, ![4, 8192, 8, 128]⟩
abbrev S4x8192x8 : Shape := ⟨3, ![4, 8192, 8]⟩
abbrev S128 : Shape := ⟨1, ![128]⟩
abbrev S4x8192 : Shape := ⟨2, ![4, 8192]⟩
abbrev S4 : Shape := ⟨1, ![4]⟩
abbrev S64 : Shape := ⟨1, ![64]⟩
abbrev S_ : Shape := ⟨0, ![]⟩
abbrev S1x128 : Shape := ⟨2, ![1, 128]⟩
abbrev S4x8192x1 : Shape := ⟨3, ![4, 8192, 1]⟩
abbrev S8x128 : Shape := ⟨2, ![8, 128]⟩
abbrev S1x64x40x128 : Shape := ⟨4, ![1, 64, 40, 128]⟩
abbrev S1 : Shape := ⟨1, ![1]⟩
abbrev S1x64x40 : Shape := ⟨3, ![1, 64, 40]⟩
abbrev S1x64x8x128 : Shape := ⟨4, ![1, 64, 8, 128]⟩
abbrev S1x64x8 : Shape := ⟨3, ![1, 64, 8]⟩
abbrev S1x64x1 : Shape := ⟨3, ![1, 64, 1]⟩
abbrev S64x1 : Shape := ⟨2, ![64, 1]⟩
abbrev S64x128 : Shape := ⟨2, ![64, 128]⟩
abbrev S64x1x128 : Shape := ⟨3, ![64, 1, 128]⟩
abbrev S64x1x1 : Shape := ⟨3, ![64, 1, 1]⟩
abbrev S64x40x128 : Shape := ⟨3, ![64, 40, 128]⟩
abbrev S64x40 : Shape := ⟨2, ![64, 40]⟩
abbrev S64x40x1 : Shape := ⟨3, ![64, 40, 1]⟩
abbrev S1x1x128 : Shape := ⟨3, ![1, 1, 128]⟩
abbrev S40x128 : Shape := ⟨2, ![40, 128]⟩
abbrev S5x8x128 : Shape := ⟨3, ![5, 8, 128]⟩
abbrev S64x8x128 : Shape := ⟨3, ![64, 8, 128]⟩
abbrev S64x8 : Shape := ⟨2, ![64, 8]⟩
abbrev S64x8x1 : Shape := ⟨3, ![64, 8, 1]⟩
abbrev S1x8x128 : Shape := ⟨3, ![1, 8, 128]⟩

abbrev nBuf : Space → Nat
  | .hbm => 35
  | .vmem => 27
  | .smem => 1
  | _ => 0

abbrev bufTy : (tb : Table) → Fin (tcTables nBuf tb) → BufTy
  | .hbm, ⟨0, _⟩ => ⟨S4x8192x40x128, .fp8e5m2⟩
  | .hbm, ⟨1, _⟩ => ⟨S4x8192x40, .f32⟩
  | .hbm, ⟨2, _⟩ => ⟨S4x8192x8x128, .fp8e5m2⟩
  | .hbm, ⟨3, _⟩ => ⟨S4x8192x8, .f32⟩
  | .hbm, ⟨4, _⟩ => ⟨S4x8192x40x128, .fp8e4m3⟩
  | .hbm, ⟨5, _⟩ => ⟨S4x8192x40, .f32⟩
  | .hbm, ⟨6, _⟩ => ⟨S4x8192x8x128, .fp8e4m3⟩
  | .hbm, ⟨7, _⟩ => ⟨S4x8192x8, .f32⟩
  | .hbm, ⟨8, _⟩ => ⟨S128, .f32⟩
  | .hbm, ⟨9, _⟩ => ⟨S128, .f32⟩
  | .hbm, ⟨10, _⟩ => ⟨S4x8192, .i32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S4x8192x1, .i32⟩
  | .hbm, ⟨27, _⟩ => ⟨S4x8192x40x128, .bf16⟩
  | .hbm, ⟨28, _⟩ => ⟨S4x8192x8x128, .bf16⟩
  | .hbm, ⟨29, _⟩ => ⟨S8x128, .f32⟩
  | .hbm, ⟨30, _⟩ => ⟨S8x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .local _ .vmem, ⟨0, _⟩ => ⟨S1x64x40x128, .fp8e5m2⟩
  | .local _ .vmem, ⟨1, _⟩ => ⟨S1x64x40x128, .fp8e5m2⟩
  | .local _ .vmem, ⟨2, _⟩ => ⟨S1x64x40, .f32⟩
  | .local _ .vmem, ⟨3, _⟩ => ⟨S1x64x40, .f32⟩
  | .local _ .vmem, ⟨4, _⟩ => ⟨S1x64x8x128, .fp8e5m2⟩
  | .local _ .vmem, ⟨5, _⟩ => ⟨S1x64x8x128, .fp8e5m2⟩
  | .local _ .vmem, ⟨6, _⟩ => ⟨S1x64x8, .f32⟩
  | .local _ .vmem, ⟨7, _⟩ => ⟨S1x64x8, .f32⟩
  | .local _ .vmem, ⟨8, _⟩ => ⟨S1x64x40x128, .fp8e4m3⟩
  | .local _ .vmem, ⟨9, _⟩ => ⟨S1x64x40x128, .fp8e4m3⟩
  | .local _ .vmem, ⟨10, _⟩ => ⟨S1x64x40, .f32⟩
  | .local _ .vmem, ⟨11, _⟩ => ⟨S1x64x40, .f32⟩
  | .local _ .vmem, ⟨12, _⟩ => ⟨S1x64x8x128, .fp8e4m3⟩
  | .local _ .vmem, ⟨13, _⟩ => ⟨S1x64x8x128, .fp8e4m3⟩
  | .local _ .vmem, ⟨14, _⟩ => ⟨S1x64x8, .f32⟩
  | .local _ .vmem, ⟨15, _⟩ => ⟨S1x64x8, .f32⟩
  | .local _ .vmem, ⟨16, _⟩ => ⟨S1x128, .f32⟩
  | .local _ .vmem, ⟨17, _⟩ => ⟨S1x128, .f32⟩
  | .local _ .vmem, ⟨18, _⟩ => ⟨S1x64x1, .i32⟩
  | .local _ .vmem, ⟨19, _⟩ => ⟨S1x64x1, .i32⟩
  | .local _ .vmem, ⟨20, _⟩ => ⟨S1x128, .f32⟩
  | .local _ .vmem, ⟨21, _⟩ => ⟨S1x64x40x128, .bf16⟩
  | .local _ .vmem, ⟨22, _⟩ => ⟨S1x64x40x128, .bf16⟩
  | .local _ .vmem, ⟨23, _⟩ => ⟨S1x64x8x128, .bf16⟩
  | .local _ .vmem, ⟨24, _⟩ => ⟨S1x64x8x128, .bf16⟩
  | .local _ .vmem, ⟨25, _⟩ => ⟨S8x128, .f32⟩
  | .local _ .vmem, ⟨26, _⟩ => ⟨S8x128, .f32⟩
  | .local _ .smem, ⟨0, _⟩ => ⟨S4, .i32⟩
  | _, _ => ⟨S4x8192x40x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_cst_2 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_arg11 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨2, ![4, 128], ![false, false]⟩

abbrev pre0 : Pipeline.Prefetch sig := ⟨1, ![main_arg11.idx], fun | 0 => main_arg11.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v6 : BitVec 32) : BitVec 1 :=
  let arg1 : BitVec 32 := BitVec.ofNat 32 (i 1).val
  let c64_i32 : BitVec 32 := 64#32
  let v7 : BitVec 32 := Scalar.muli arg1 c64_i32
  let v8 : BitVec 1 := Scalar.cmpi .slt v7 v6
  let v9 : BitVec 32 := Scalar.extui v8
  let c0_i32_2 : BitVec 32 := 0#32
  let v10 : BitVec 1 := Scalar.cmpi .ne v9 c0_i32_2
  v10

def k0_cond3 (i : grid0.Coords) (v6 : BitVec 32) : BitVec 1 :=
  let arg1 : BitVec 32 := BitVec.ofNat 32 (i 1).val
  let c64_i32_3 : BitVec 32 := 64#32
  let v11 : BitVec 32 := Scalar.muli arg1 c64_i32_3
  let v12 : BitVec 1 := Scalar.cmpi .sge v11 v6
  let v13 : BitVec 32 := Scalar.extui v12
  let c0_i32_4 : BitVec 32 := 0#32
  let v14 : BitVec 1 := Scalar.cmpi .ne v13 c0_i32_4
  v14

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c63_i32 : BitVec 32 := 63#32
  let v2 : BitVec 32 := Scalar.addi v1 c63_i32
  let c64_i32 : BitVec 32 := 64#32
  let v3 : BitVec 32 := Scalar.divsi v2 c64_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  let c0_i32_2 : BitVec 32 := 0#32
  ![arg0.toNat, v6.toNat, c0_i32_0.toNat, c0_i32_1.toNat]

def cc0_transform_1 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c63_i32 : BitVec 32 := 63#32
  let v2 : BitVec 32 := Scalar.addi v1 c63_i32
  let c64_i32 : BitVec 32 := 64#32
  let v3 : BitVec 32 := Scalar.divsi v2 c64_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, v6.toNat, c0_i32_0.toNat]

def cc0_transform_2 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c63_i32 : BitVec 32 := 63#32
  let v2 : BitVec 32 := Scalar.addi v1 c63_i32
  let c64_i32 : BitVec 32 := 64#32
  let v3 : BitVec 32 := Scalar.divsi v2 c64_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  let c0_i32_2 : BitVec 32 := 0#32
  ![arg0.toNat, v6.toNat, c0_i32_0.toNat, c0_i32_1.toNat]

def cc0_transform_3 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c63_i32 : BitVec 32 := 63#32
  let v2 : BitVec 32 := Scalar.addi v1 c63_i32
  let c64_i32 : BitVec 32 := 64#32
  let v3 : BitVec 32 := Scalar.divsi v2 c64_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, v6.toNat, c0_i32_0.toNat]

def cc0_transform_4 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c63_i32 : BitVec 32 := 63#32
  let v2 : BitVec 32 := Scalar.addi v1 c63_i32
  let c64_i32 : BitVec 32 := 64#32
  let v3 : BitVec 32 := Scalar.divsi v2 c64_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  let c0_i32_2 : BitVec 32 := 0#32
  ![arg0.toNat, v6.toNat, c0_i32_0.toNat, c0_i32_1.toNat]

def cc0_transform_5 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c63_i32 : BitVec 32 := 63#32
  let v2 : BitVec 32 := Scalar.addi v1 c63_i32
  let c64_i32 : BitVec 32 := 64#32
  let v3 : BitVec 32 := Scalar.divsi v2 c64_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, v6.toNat, c0_i32_0.toNat]

def cc0_transform_6 (k0_off1_inb : ∀ i : grid0.Coords, ∀ a, (k0_off1 i) a + S1.size a ≤ S4.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c63_i32 : BitVec 32 := 63#32
  let v2 : BitVec 32 := Scalar.addi v1 c63_i32
  let c64_i32 : BitVec 32 := 64#32
  let v3 : BitVec 32 := Scalar.divsi v2 c64_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  let c0_i32_2 : BitVec 32 := 0#32
  ![arg0.toNat, v6.toNat, c0_i32_0.toNat, c0_i32_1.toNat]

def cc0_transform_7 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c63_i32 : BitVec 32 := 63#32
  let v2 : BitVec 32 := Scalar.addi v1 c63_i32
  let c64_i32 : BitVec 32 := 64#32
  let v3 : BitVec 32 := Scalar.divsi v2 c64_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, v6.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c63_i32 : BitVec 32 := 63#32
  let v2 : BitVec 32 := Scalar.addi v1 c63_i32
  let c64_i32 : BitVec 32 := 64#32
  let v3 : BitVec 32 := Scalar.divsi v2 c64_i32
  let c1_i32 : BitVec 32 := 1#32
  let v4 : BitVec 32 := Scalar.subi v3 c1_i32
  let c0_i32 : BitVec 32 := 0#32
  let v5 : BitVec 32 := Scalar.maxsi v4 c0_i32
  let v6 : BitVec 32 := Scalar.minsi arg1 v5
  let c0_i32_0 : BitVec 32 := 0#32
  let c0_i32_1 : BitVec 32 := 0#32
  ![arg0.toNat, v6.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x40x128 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x8x128 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x40x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x8x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x64x1 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x64x40x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x8x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== ReferenceIdeal.lean ====
abbrev S4x8192x40x128 : Shape := ⟨4, ![4, 8192, 40, 128]⟩
abbrev S4x8192x40 : Shape := ⟨3, ![4, 8192, 40]⟩
abbrev S4x8192x8x128 : Shape := ⟨4, ![4, 8192, 8, 128]⟩
abbrev S4x8192x8 : Shape := ⟨3, ![4, 8192, 8]⟩
abbrev S128 : Shape := ⟨1, ![128]⟩
abbrev S4x8192 : Shape := ⟨2, ![4, 8192]⟩
abbrev S4 : Shape := ⟨1, ![4]⟩
abbrev S64 : Shape := ⟨1, ![64]⟩
abbrev S_ : Shape := ⟨0, ![]⟩
abbrev S1x8192 : Shape := ⟨2, ![1, 8192]⟩
abbrev S4x1 : Shape := ⟨2, ![4, 1]⟩
abbrev S4x8192x1x1 : Shape := ⟨4, ![4, 8192, 1, 1]⟩
abbrev S4x8192x1 : Shape := ⟨3, ![4, 8192, 1]⟩
abbrev S1x1x64 : Shape := ⟨3, ![1, 1, 64]⟩
abbrev S4x8192x64 : Shape := ⟨3, ![4, 8192, 64]⟩
abbrev S4x8192x1x64 : Shape := ⟨4, ![4, 8192, 1, 64]⟩
abbrev S4x8192x40x1 : Shape := ⟨4, ![4, 8192, 40, 1]⟩
abbrev S4x8192x40x64 : Shape := ⟨4, ![4, 8192, 40, 64]⟩
abbrev S1x1x1x128 : Shape := ⟨4, ![1, 1, 1, 128]⟩
abbrev S4x8192x8x1 : Shape := ⟨4, ![4, 8192, 8, 1]⟩
abbrev S4x8192x8x64 : Shape := ⟨4, ![4, 8192, 8, 64]⟩

abbrev nBuf : Space → Nat
  | .hbm => 27
  | .vmem => 17
  | .smem => 0
  | _ => 0

abbrev bufTy : (tb : Table) → Fin (tcTables nBuf tb) → BufTy
  | .hbm, ⟨0, _⟩ => ⟨S4x8192x40x128, .fp8e5m2⟩
  | .hbm, ⟨1, _⟩ => ⟨S4x8192x40, .f32⟩
  | .hbm, ⟨2, _⟩ => ⟨S4x8192x8x128, .fp8e5m2⟩
  | .hbm, ⟨3, _⟩ => ⟨S4x8192x8, .f32⟩
  | .hbm, ⟨4, _⟩ => ⟨S4x8192x40x128, .fp8e4m3⟩
  | .hbm, ⟨5, _⟩ => ⟨S4x8192x40, .f32⟩
  | .hbm, ⟨6, _⟩ => ⟨S4x8192x8x128, .fp8e4m3⟩
  | .hbm, ⟨7, _⟩ => ⟨S4x8192x8, .f32⟩
  | .hbm, ⟨8, _⟩ => ⟨S128, .f32⟩
  | .hbm, ⟨9, _⟩ => ⟨S128, .f32⟩
  | .hbm, ⟨10, _⟩ => ⟨S4x8192, .i32⟩
  | .hbm, ⟨11, _⟩ => ⟨S4, .i32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S4x8192x40x128, .bf16⟩
  | .hbm, ⟨24, _⟩ => ⟨S4x8192x8x128, .bf16⟩
  | .hbm, ⟨25, _⟩ => ⟨S128, .f32⟩
  | .hbm, ⟨26, _⟩ => ⟨S128, .f32⟩
  | .local _ .vmem, ⟨0, _⟩ => ⟨S4x8192x40x128, .fp8e5m2⟩
  | .local _ .vmem, ⟨1, _⟩ => ⟨S4x8192x40, .f32⟩
  | .local _ .vmem, ⟨2, _⟩ => ⟨S4x8192x8x128, .fp8e5m2⟩
  | .local _ .vmem, ⟨3, _⟩ => ⟨S4x8192x8, .f32⟩
  | .local _ .vmem, ⟨4, _⟩ => ⟨S4x8192x40x128, .fp8e4m3⟩
  | .local _ .vmem, ⟨5, _⟩ => ⟨S4x8192x40, .f32⟩
  | .local _ .vmem, ⟨6, _⟩ => ⟨S4x8192x8x128, .fp8e4m3⟩
  | .local _ .vmem, ⟨7, _⟩ => ⟨S4x8192x8, .f32⟩
  | .local _ .vmem, ⟨8, _⟩ => ⟨S128, .f32⟩
  | .local _ .vmem, ⟨9, _⟩ => ⟨S128, .f32⟩
  | .local _ .vmem, ⟨10, _⟩ => ⟨S4x8192, .i32⟩
  | .local _ .vmem, ⟨11, _⟩ => ⟨S4, .i32⟩
  | .local _ .vmem, ⟨12, _⟩ => ⟨S64, .f32⟩
  | .local _ .vmem, ⟨13, _⟩ => ⟨S4x8192x40x128, .bf16⟩
  | .local _ .vmem, ⟨14, _⟩ => ⟨S4x8192x8x128, .bf16⟩
  | .local _ .vmem, ⟨15, _⟩ => ⟨S128, .f32⟩
  | .local _ .vmem, ⟨16, _⟩ => ⟨S128, .f32⟩
  | _, _ => ⟨S4x8192x40x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S4x8192x40x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8192x8x128 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8192x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x40x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8192x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192x8x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8192x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x8192 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4x8192x40x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x8192x8x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.KernelTable.lean ====
/- The prefetched table of `Kernel`: the sequence lengths as launched, the block index every input window
   computes from them, and that every such block lies inside its array — so the region runs on any contents.
   Generic in the float semantics. -/
module

public import proofs.«01_k».proof.Proof.Gen.Kernel.Launch
public import proofs.«01_k».proof.Proof.Gen.Kernel.Skeleton
public import Idealize.ShloMosaic.Lib.Pipeline.FrameBody
public import Idealize.ShloMosaic.Lib.Pipeline.FrameSuffix
public import Idealize.ShloMosaic.Lib.Pipeline.TableIdle
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Run

open Cert.Kernel Cert.Kernel.Gen
open Idealize.ShloMosaic Idealize.ShloMosaic.TcCoe Idealize.ShloMosaic.Tactic

variable {F : FTy → Type} [FloatOps F]

/-- The table's contents at launch: the sequence lengths. -/
def pf (m : (ℓ : Loc nD τ sig) → Buf (Elt F) ℓ) : pre0.Contents (Elt F) := fun k => m (((0 : Dev nD) : Thread nD τ).loc (pre0.ref k))

/-- The token block a window of the inputs reads at grid point `i`, of the sequence length `n`: the point's own, held
    at the last block with a live token once the sequence is over. -/
def live (i : grid0.Coords) (n : BitVec 32) : BitVec 32 :=
  Scalar.minsi (BitVec.ofNat 32 (i 1).val) (Scalar.maxsi (Scalar.subi (Scalar.divsi (Scalar.addi n 63#32) 64#32) 1#32) 0#32)

theorem toInt_maxsi (a b : BitVec 32) : (Scalar.maxsi a b).toInt = max a.toInt b.toInt := by
  show (if b.slt a then a else b).toInt = _
  by_cases h : b.toInt < a.toInt
  · rw [show b.slt a = true from decide_eq_true h, if_pos rfl, max_eq_left (le_of_lt h)]
  · rw [show b.slt a = false from decide_eq_false h, if_neg Bool.false_ne_true, max_eq_right (not_lt.mp h)]

theorem toInt_minsi (a b : BitVec 32) : (Scalar.minsi a b).toInt = min a.toInt b.toInt := by
  show (if a.slt b then a else b).toInt = _
  by_cases h : a.toInt < b.toInt
  · rw [show a.slt b = true from decide_eq_true h, if_pos rfl, min_eq_left (le_of_lt h)]
  · rw [show a.slt b = false from decide_eq_false h, if_neg Bool.false_ne_true, min_eq_right (not_lt.mp h)]

theorem block_toInt (i : grid0.Coords) : (BitVec.ofNat 32 (i 1).val).toInt = (i 1).val := by
  have hi : (i 1).val < 128 := (i 1).isLt
  rw [BitVec.toInt_ofNat', Int.bmod_eq_of_le] <;> omega

/-- As an integer, it is between 0 and the point's block. -/
theorem live_toInt (i : grid0.Coords) (n : BitVec 32) :
    (live i n).toInt = min ((i 1).val : Int) (max (Scalar.subi (Scalar.divsi (Scalar.addi n 63#32) 64#32) 1#32).toInt 0) := by
  unfold live
  rw [toInt_minsi, toInt_maxsi, block_toInt]
  rfl

theorem live_bounds (i : grid0.Coords) (n : BitVec 32) : 0 ≤ (live i n).toInt ∧ (live i n).toInt ≤ (i 1).val := by
  rw [live_toInt]; omega

theorem live_toNat (i : grid0.Coords) (n : BitVec 32) : ((live i n).toNat : Int) = (live i n).toInt := by
  have h := live_bounds i n
  have hi : (i 1).val < 128 := (i 1).isLt
  rw [BitVec.toInt_eq_toNat_cond] at h ⊢
  have := (live i n).isLt
  split at h <;> rename_i hc <;> simp only [hc, if_true, if_false] <;> omega

/-- It is one of the 128 blocks. -/
theorem live_lt (i : grid0.Coords) (n : BitVec 32) : (live i n).toNat < 128 := by
  have h := live_bounds i n
  have hi : (i 1).val < 128 := (i 1).isLt
  have := live_toNat i n
  omega

/-- At a point whose block has a live token it is the point's block, if the round-up does not wrap. -/
theorem live_eq (i : grid0.Coords) (n : BitVec 32) (hn : n.toInt ≤ 2147483584) (hl : 64 * ((i 1).val : Int) < n.toInt) :
    (live i n).toNat = (i 1).val := by
  have hi : (i 1).val < 128 := (i 1).isLt
  have e := live_toNat i n
  rw [live_toInt] at e
  have h1 : (Scalar.addi n 63#32).toInt = n.toInt + 63 := by
    show (n + 63#32).toInt = _
    rw [BitVec.toInt_add, show (63#32 : BitVec 32).toInt = 63 from rfl, Int.bmod_eq_of_le] <;> omega
  have h2 : (Scalar.divsi (Scalar.addi n 63#32) 64#32).toInt = (n.toInt + 63) / 64 := by
    have hc : ¬IntOp.SDivCorner (Scalar.addi n 63#32) (64#32 : BitVec 32) := by
      unfold IntOp.SDivCorner; simp
    show (IntOp.divsi .scalar (Scalar.addi n 63#32) 64#32).toInt = _
    unfold IntOp.divsi
    rw [if_neg hc, BitVec.toInt_sdiv, h1, show (64#32 : BitVec 32).toInt = 64 from rfl, Int.tdiv_eq_ediv_of_nonneg (by omega), Int.bmod_eq_of_le] <;> omega
  have h3 : (Scalar.subi (Scalar.divsi (Scalar.addi n 63#32) 64#32) 1#32).toInt = (n.toInt + 63) / 64 - 1 := by
    show (Scalar.divsi (Scalar.addi n 63#32) 64#32 - 1#32).toInt = _
    rw [BitVec.toInt_sub, h2, show (1#32 : BitVec 32).toInt = 1 from rfl, Int.bmod_eq_of_le] <;> omega
  rw [h3] at e
  omega

theorem batch_toNat (i : grid0.Coords) : (BitVec.ofNat 32 (i 0).val).toNat = (i 0).val := by
  have hi : (i 0).val < 4 := (i 0).isLt
  rw [BitVec.toNat_ofNat, Nat.mod_eq_of_lt (by omega)]

/-- The table's word a grid point reads: its sequence's length. -/
def len (p : pre0.Contents (Elt F)) (i : grid0.Coords) : BitVec 32 := p.at 0 (Rect.unit (s := S4) (k0_off1 i) S1.size (k0_off1_inb i)) numel1_S1

theorem ix0_0 (p : pre0.Contents (Elt F)) (i : grid0.Coords) : cc0_transform_0 k0_off1_inb numel1_S1 p i = ![(BitVec.ofNat 32 (i 0).val).toNat, (live i (len p i)).toNat, 0, 0] := rfl

theorem inb4 (b l A B : Nat) (hb : b < 4) (hl : l < 128) :
    ∀ a : Fin 4, ((![b, l, 0, 0] : Fin 4 → Nat) a + 1) * (![1, 64, A, B] : Fin 4 → Nat) a ≤ (![4, 8192, A, B] : Fin 4 → Nat) a := by
  intro a; fin_cases a
  · show (b + 1) * 1 ≤ 4; omega
  · show (l + 1) * 64 ≤ 8192; omega
  · show (0 + 1) * A ≤ A; omega
  · show (0 + 1) * B ≤ B; omega

theorem inb3 (b l A : Nat) (hb : b < 4) (hl : l < 128) :
    ∀ a : Fin 3, ((![b, l, 0] : Fin 3 → Nat) a + 1) * (![1, 64, A] : Fin 3 → Nat) a ≤ (![4, 8192, A] : Fin 3 → Nat) a := by
  intro a; fin_cases a
  · show (b + 1) * 1 ≤ 4; omega
  · show (l + 1) * 64 ≤ 8192; omega
  · show (0 + 1) * A ≤ A; omega

theorem batch_lt (i : grid0.Coords) : (BitVec.ofNat 32 (i 0).val).toNat < 4 := by
  rw [batch_toNat]; exact (i 0).isLt

/-- The region's side condition holds at any table: every window's block lies inside its array, and its transfer
    moves whole words. -/
theorem ok (p : pre0.Contents (Elt F)) : ok0 p := by
  unfold ok0
  refine ⟨fun i => ⟨inb4 _ _ 40 128 (batch_lt i) (live_lt i (len p i)), ?_⟩, fun i => ⟨inb3 _ _ 40 (batch_lt i) (live_lt i (len p i)), .inl rfl⟩,
    fun i => ⟨inb4 _ _ 8 128 (batch_lt i) (live_lt i (len p i)), ?_⟩, fun i => ⟨inb3 _ _ 8 (batch_lt i) (live_lt i (len p i)), .inl rfl⟩,
    fun i => ⟨inb4 _ _ 40 128 (batch_lt i) (live_lt i (len p i)), ?_⟩, fun i => ⟨inb3 _ _ 40 (batch_lt i) (live_lt i (len p i)), .inl rfl⟩,
    fun i => ⟨inb4 _ _ 8 128 (batch_lt i) (live_lt i (len p i)), ?_⟩, fun i => ⟨inb3 _ _ 8 (batch_lt i) (live_lt i (len p i)), .inl rfl⟩,
    fun i => ⟨inb3 _ _ 1 (batch_lt i) (live_lt i (len p i)), .inl rfl⟩⟩
  all_goals exact .inr (Affine.block_words_dvd (of_decide_eq_true rfl) (by decide))

/-- The admissible contents the region runs at. -/
def adm (m : (ℓ : Loc nD τ sig) → Buf (Elt F) ℓ) : (p : Fin 1) → (pcfgs (F := F) p).Adm := fun _ => ⟨pf m, ok (pf m)⟩

end Cert.Kernel.Run

end
-- ==== Proof.KernelBody.lean ====
/- What the body of `Kernel` does to its buffers at one grid point, generic in the float semantics: at a point with
   a live token (`live`) both gradient blocks are written and both sums of the norm weights' gradients grow by the block's
   rows; at any other point the gradient blocks are zeroed. The first point starts the two sums at zero. -/
module

public import proofs.«01_k».proof.Proof.KernelTable
public import Idealize.ShloMosaic.Lib.VecWindow

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values written at a live point, of the input blocks

`x0`, `x1`: the incoming q-gradient's codes and scales; `x2`, `x3`: the k-gradient's; `x4` … `x7`: q's and k's own
codes and scales; `x8`, `x9`: the norm weights; `x10`: the positions; `x11`: the rotation's frequencies. -/

section Values

variable (i : grid0.Coords) (n : BitVec 32) (x0 : Vec F S1x64x40x128 .fp8e5m2) (x1 : Vec F S1x64x40 .f32) (x2 : Vec F S1x64x8x128 .fp8e5m2) (x3 : Vec F S1x64x8 .f32) (x4 : Vec F S1x64x40x128 .fp8e4m3) (x5 : Vec F S1x64x40 .f32) (x6 : Vec F S1x64x8x128 .fp8e4m3) (x7 : Vec F S1x64x8 .f32) (x8 : Vec F S1x128 .f32) (x9 : Vec F S1x128 .f32) (x10 : Vec F S1x64x1 .i32) (x11 : Vec F S1x128 .f32)

/-- The rows whose token is below the sequence length `n`. -/
abbrev liveRows : IVec S64x1x1 1 := k0_pay9 (F := F) (BitVec.ofNat 32 (i 1).val) n
/-- The block of q's gradient, -/
def outQ : FVec F S1x64x40x128 .bf16 :=
  k0_pay19 (liveRows (F := F) i n) (k0_pay15 (k0_pay11 x4) (k0_pay12 x5))
    (k0_pay18 (k0_pay7 x10 x11) (k0_pay8 x10 x11) (k0_pay10 x0 x1) (k0_pay11 x4) (k0_pay12 x5) x8)
/-- of k's gradient, -/
def outK : FVec F S1x64x8x128 .bf16 :=
  k0_pay3 (k0_pay27 (liveRows (F := F) i n) (k0_pay20 x6 x7) (k0_pay21 x9) (k0_pay22 (k0_pay7 x10 x11) (k0_pay8 x10 x11) x2 x3) (k0_pay23 x6 x7))
/-- and the two sums after the point, from the sums before it. -/
def sumQ (a : Vec F S8x128 .f32) : FVec F S8x128 .f32 :=
  k0_pay17 (k0_pay7 x10 x11) (k0_pay8 x10 x11) (liveRows (F := F) i n) (k0_pay10 x0 x1) (k0_pay11 x4) (k0_pay12 x5) a
def sumK (a : Vec F S8x128 .f32) : FVec F S8x128 .f32 :=
  k0_pay26 (liveRows (F := F) i n) (k0_pay20 x6 x7) (k0_pay22 (k0_pay7 x10 x11) (k0_pay8 x10 x11) x2 x3) (k0_pay23 x6 x7) a

end Values

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

/-- A memref's buffer, owned, is the memref owned with what it reads there. -/
theorem owns_read (c : Dev nD) {sp : Space} {sh : Shape} {e : EltTy} (r : Memref sig .tc sp sh e) (f : r.view.ty.Contents (Elt F)) :
    (r.view.loc (c : Thread nD τ) ↦[r.view.set]{fullShare} f) ⊢ (iprop(∃ g, ⌜r.view.read (Elt F) g = r.view.read (Elt F) f⌝ ∗ (r.view.loc (c : Thread nD τ) ↦[r.view.set]{fullShare} g)) : sProp 𝕄) := by
  iintro H; iexists f; isplitr
  · ipureintro; rfl
  iexact H

/-! A load of a whole buffer reads its contents (the six shapes loaded). -/

theorem rd4q {κ : Kind} {sp : Space} {e : EltTy} (v : View sig κ sp S1x64x40x128 e) (f : v.ty.Contents (Elt F)) :
    v.readAt (Elt F) (Rect.unit (s := S1x64x40x128) ![0, 0, 0, 0] ![1, 64, 40, 128] inb_S1x64x40x128_S1x64x40x128_0_0_0_0).toLoadRect f = v.read (Elt F) f := View.readAt_full v f _
theorem rd3q {κ : Kind} {sp : Space} {e : EltTy} (v : View sig κ sp S1x64x40 e) (f : v.ty.Contents (Elt F)) :
    v.readAt (Elt F) (Rect.unit (s := S1x64x40) ![0, 0, 0] ![1, 64, 40] inb_S1x64x40_S1x64x40_0_0_0).toLoadRect f = v.read (Elt F) f := View.readAt_full v f _
theorem rd4k {κ : Kind} {sp : Space} {e : EltTy} (v : View sig κ sp S1x64x8x128 e) (f : v.ty.Contents (Elt F)) :
    v.readAt (Elt F) (Rect.unit (s := S1x64x8x128) ![0, 0, 0, 0] ![1, 64, 8, 128] inb_S1x64x8x128_S1x64x8x128_0_0_0_0).toLoadRect f = v.read (Elt F) f := View.readAt_full v f _
theorem rd3k {κ : Kind} {sp : Space} {e : EltTy} (v : View sig κ sp S1x64x8 e) (f : v.ty.Contents (Elt F)) :
    v.readAt (Elt F) (Rect.unit (s := S1x64x8) ![0, 0, 0] ![1, 64, 8] inb_S1x64x8_S1x64x8_0_0_0).toLoadRect f = v.read (Elt F) f := View.readAt_full v f _
theorem rd2 {κ : Kind} {sp : Space} {e : EltTy} (v : View sig κ sp S1x128 e) (f : v.ty.Contents (Elt F)) :
    v.readAt (Elt F) (Rect.unit (s := S1x128) ![0, 0] ![1, 128] inb_S1x128_S1x128_0_0).toLoadRect f = v.read (Elt F) f := View.readAt_full v f _
theorem rd3p {κ : Kind} {sp : Space} {e : EltTy} (v : View sig κ sp S1x64x1 e) (f : v.ty.Contents (Elt F)) :
    v.readAt (Elt F) (Rect.unit (s := S1x64x1) ![0, 0, 0] ![1, 64, 1] inb_S1x64x1_S1x64x1_0_0_0).toLoadRect f = v.read (Elt F) f := View.readAt_full v f _
theorem rd2s {κ : Kind} {sp : Space} {e : EltTy} (v : View sig κ sp S8x128 e) (f : v.ty.Contents (Elt F)) :
    v.readAt (Elt F) (Rect.unit (s := S8x128) ![0, 0] ![8, 128] inb_S8x128_S8x128_0_0).toLoadRect f = v.read (Elt F) f := View.readAt_full v f _

variable (i : grid0.Coords)
set_option maxHeartbeats 4000000 in
/-- A live point after the first. -/
theorem sound_next_live (c : Dev nD) (f : Buf (Elt F) ((c : Thread nD τ).loc main_arg11)) (n : BitVec 32)
    (hn : ((Memref.whole main_arg11).access (Rect.unit (s := S4) (k0_off1 i) S1.size (k0_off1_inb i))).read (Elt F) f (Shape.Idx.first (numel1_S1.symm ▸ Nat.one_pos)) = n)
    (h1 : ¬k0_cond1 i = 1#1) (h2 : k0_cond2 i n = 1#1) (h3 : ¬k0_cond3 i n = 1#1)
    (arg3 : Memref sig .tc .vmem S1x64x40x128 .fp8e5m2) (harg3 : arg3.IsWhole) (arg4 : Memref sig .tc .vmem S1x64x40 .f32) (harg4 : arg4.IsWhole) (arg5 : Memref sig .tc .vmem S1x64x8x128 .fp8e5m2) (harg5 : arg5.IsWhole) (arg6 : Memref sig .tc .vmem S1x64x8 .f32) (harg6 : arg6.IsWhole) (arg7 : Memref sig .tc .vmem S1x64x40x128 .fp8e4m3) (harg7 : arg7.IsWhole) (arg8 : Memref sig .tc .vmem S1x64x40 .f32) (harg8 : arg8.IsWhole) (arg9 : Memref sig .tc .vmem S1x64x8x128 .fp8e4m3) (harg9 : arg9.IsWhole) (arg10 : Memref sig .tc .vmem S1x64x8 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x64x1 .i32) (harg13 : arg13.IsWhole) (arg14 : Memref sig .tc .vmem S1x128 .f32) (harg14 : arg14.IsWhole) (arg15 : Memref sig .tc .vmem S1x64x40x128 .bf16) (harg15 : arg15.IsWhole) (arg16 : Memref sig .tc .vmem S1x64x8x128 .bf16) (harg16 : arg16.IsWhole) (arg17 : Memref sig .tc .vmem S8x128 .f32) (harg17 : arg17.IsWhole) (arg18 : Memref sig .tc .vmem S8x128 .f32) (harg18 : arg18.IsWhole)
    (x0 : Vec F S1x64x40x128 .fp8e5m2) (x1 : Vec F S1x64x40 .f32) (x2 : Vec F S1x64x8x128 .fp8e5m2) (x3 : Vec F S1x64x8 .f32) (x4 : Vec F S1x64x40x128 .fp8e4m3) (x5 : Vec F S1x64x40 .f32) (x6 : Vec F S1x64x8x128 .fp8e4m3) (x7 : Vec F S1x64x8 .f32) (x8 : Vec F S1x128 .f32) (x9 : Vec F S1x128 .f32) (x10 : Vec F S1x64x1 .i32) (x11 : Vec F S1x128 .f32) (a b : Vec F S8x128 .f32) {K : PUnit.{1} → sProp 𝕄} :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d)
        ∗ owns (c : Thread nD τ) arg17 fullShare a ∗ owns (c : Thread nD τ) arg18 fullShare b ∗ (((c : Thread nD τ).loc main_arg11) ↦{fullShare.right} f))
      ⊢ iprop(((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (outQ i n x0 x1 x4 x5 x8 x10 x11) ∗ owns (c : Thread nD τ) arg16 fullShare (outK i n x2 x3 x6 x7 x9 x10 x11)
            ∗ owns (c : Thread nD τ) arg17 fullShare (sumQ i n x0 x1 x4 x5 x10 x11 a) ∗ owns (c : Thread nD τ) arg18 fullShare (sumK i n x2 x3 x6 x7 x10 x11 b) ∗ (((c : Thread nD τ).loc main_arg11) ↦{fullShare.right} f)) -∗ K ⟨⟩)
        -∗ wp frame (wpE (defs₀ (F := F)) Variants.none c none) Set.univ (cc0_qk_norm_rope_bwd i (Memref.whole main_arg11) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) := by
  simp only [cc0_qk_norm_rope_bwd_eq_skeleton]
  unfold cc0_qk_norm_rope_bwd_skel
  simp only [k0_part1_eq_skeleton, k0_part2_eq_skeleton, k0_part3_eq_skeleton, k0_part4_eq_skeleton]
  rw [dif_neg h1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%f14, %hf14, H14⟩, ⟨%f15, %hf15, H15⟩, Ht⟩ Hk
  subst hf0 hf1 hf2 hf3 hf4 hf5 hf6 hf7 hf8 hf9 hf10 hf11 hf12 hf13 hf14 hf15
  sl_exec
  iapply (wp_load_rect Variants.none (c : Thread nD τ) none Set.univ (m := Memref.whole main_arg11) (r := Rect.unit (s := S4) (k0_off1 i) S1.size (k0_off1_inb i)) (Finset.subset_univ _)) $$ Ht
  iintro Ht
  rw [wp_ret]
  imodintro
  beta_reduce
  rw [hn, dif_pos h2, dif_neg h3]
  sl_exec
  rw [wp_ret]
  imodintro
  iapply Hk
  isplitl [H0]; · iapply (owns_read c _ f0); iexact H0
  isplitl [H1]; · iapply (owns_read c _ f1); iexact H1
  isplitl [H2]; · iapply (owns_read c _ f2); iexact H2
  isplitl [H3]; · iapply (owns_read c _ f3); iexact H3
  isplitl [H4]; · iapply (owns_read c _ f4); iexact H4
  isplitl [H5]; · iapply (owns_read c _ f5); iexact H5
  isplitl [H6]; · iapply (owns_read c _ f6); iexact H6
  isplitl [H7]; · iapply (owns_read c _ f7); iexact H7
  isplitl [H8]; · iapply (owns_read c _ f8); iexact H8
  isplitl [H9]; · iapply (owns_read c _ f9); iexact H9
  isplitl [H10]; · iapply (owns_read c _ f10); iexact H10
  isplitl [H11]; · iapply (owns_read c _ f11); iexact H11
  isplitl [H12]
  · iexists _; isplitr
    swap; · iexact H12
    ipureintro; refine (View.read_writes_full _ _ _ _ _).trans ?_
    unfold outQ liveRows; delta sound_next_live.sl.r sound_next_live.sl.r_1 sound_next_live.sl.r_2 sound_next_live.sl.r_3 sound_next_live.sl.r_4 sound_next_live.sl.r_5 sound_next_live.sl.r_6 sound_next_live.sl.r_7 sound_next_live.sl.r_8 sound_next_live.sl.r_9 sound_next_live.sl.r_10 sound_next_live.sl.r_11 sound_next_live.sl.r_12; simp only [View.readAt_full, rd4q, rd3q, rd4k, rd3k, rd2, rd3p, rd2s]
  isplitl [H13]
  · iexists _; isplitr
    swap; · iexact H13
    ipureintro; refine (View.read_writes_full _ _ _ _ _).trans ?_
    unfold outK liveRows; delta sound_next_live.sl.r sound_next_live.sl.r_1 sound_next_live.sl.r_2 sound_next_live.sl.r_3 sound_next_live.sl.r_4 sound_next_live.sl.r_5 sound_next_live.sl.r_6 sound_next_live.sl.r_7 sound_next_live.sl.r_8 sound_next_live.sl.r_9 sound_next_live.sl.r_10 sound_next_live.sl.r_11 sound_next_live.sl.r_12; simp only [View.readAt_full, rd4q, rd3q, rd4k, rd3k, rd2, rd3p, rd2s]
  isplitl [H14]
  · iexists _; isplitr
    swap; · iexact H14
    ipureintro; refine (View.read_writes_full _ _ _ _ _).trans ?_
    unfold sumQ liveRows; delta sound_next_live.sl.r sound_next_live.sl.r_1 sound_next_live.sl.r_2 sound_next_live.sl.r_3 sound_next_live.sl.r_4 sound_next_live.sl.r_5 sound_next_live.sl.r_6 sound_next_live.sl.r_7 sound_next_live.sl.r_8 sound_next_live.sl.r_9 sound_next_live.sl.r_10 sound_next_live.sl.r_11 sound_next_live.sl.r_12; simp only [View.readAt_full, rd4q, rd3q, rd4k, rd3k, rd2, rd3p, rd2s]
  isplitl [H15]
  · iexists _; isplitr
    swap; · iexact H15
    ipureintro; refine (View.read_writes_full _ _ _ _ _).trans ?_
    unfold sumK liveRows; delta sound_next_live.sl.r sound_next_live.sl.r_1 sound_next_live.sl.r_2 sound_next_live.sl.r_3 sound_next_live.sl.r_4 sound_next_live.sl.r_5 sound_next_live.sl.r_6 sound_next_live.sl.r_7 sound_next_live.sl.r_8 sound_next_live.sl.r_9 sound_next_live.sl.r_10 sound_next_live.sl.r_11 sound_next_live.sl.r_12; simp only [View.readAt_full, rd4q, rd3q, rd4k, rd3k, rd2, rd3p, rd2s]
  iexact Ht

set_option maxHeartbeats 4000000 in
/-- The first point, live. -/
theorem sound_first_live (c : Dev nD) (f : Buf (Elt F) ((c : Thread nD τ).loc main_arg11)) (n : BitVec 32)
    (hn : ((Memref.whole main_arg11).access (Rect.unit (s := S4) (k0_off1 i) S1.size (k0_off1_inb i))).read (Elt F) f (Shape.Idx.first (numel1_S1.symm ▸ Nat.one_pos)) = n)
    (h1 : k0_cond1 i = 1#1) (h2 : k0_cond2 i n = 1#1) (h3 : ¬k0_cond3 i n = 1#1)
    (arg3 : Memref sig .tc .vmem S1x64x40x128 .fp8e5m2) (harg3 : arg3.IsWhole) (arg4 : Memref sig .tc .vmem S1x64x40 .f32) (harg4 : arg4.IsWhole) (arg5 : Memref sig .tc .vmem S1x64x8x128 .fp8e5m2) (harg5 : arg5.IsWhole) (arg6 : Memref sig .tc .vmem S1x64x8 .f32) (harg6 : arg6.IsWhole) (arg7 : Memref sig .tc .vmem S1x64x40x128 .fp8e4m3) (harg7 : arg7.IsWhole) (arg8 : Memref sig .tc .vmem S1x64x40 .f32) (harg8 : arg8.IsWhole) (arg9 : Memref sig .tc .vmem S1x64x8x128 .fp8e4m3) (harg9 : arg9.IsWhole) (arg10 : Memref sig .tc .vmem S1x64x8 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x64x1 .i32) (harg13 : arg13.IsWhole) (arg14 : Memref sig .tc .vmem S1x128 .f32) (harg14 : arg14.IsWhole) (arg15 : Memref sig .tc .vmem S1x64x40x128 .bf16) (harg15 : arg15.IsWhole) (arg16 : Memref sig .tc .vmem S1x64x8x128 .bf16) (harg16 : arg16.IsWhole) (arg17 : Memref sig .tc .vmem S8x128 .f32) (harg17 : arg17.IsWhole) (arg18 : Memref sig .tc .vmem S8x128 .f32) (harg18 : arg18.IsWhole)
    (x0 : Vec F S1x64x40x128 .fp8e5m2) (x1 : Vec F S1x64x40 .f32) (x2 : Vec F S1x64x8x128 .fp8e5m2) (x3 : Vec F S1x64x8 .f32) (x4 : Vec F S1x64x40x128 .fp8e4m3) (x5 : Vec F S1x64x40 .f32) (x6 : Vec F S1x64x8x128 .fp8e4m3) (x7 : Vec F S1x64x8 .f32) (x8 : Vec F S1x128 .f32) (x9 : Vec F S1x128 .f32) (x10 : Vec F S1x64x1 .i32) (x11 : Vec F S1x128 .f32) {K : PUnit.{1} → sProp 𝕄} :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d)
        ∗ (∃ a, owns (c : Thread nD τ) arg17 fullShare a) ∗ (∃ b, owns (c : Thread nD τ) arg18 fullShare b) ∗ (((c : Thread nD τ).loc main_arg11) ↦{fullShare.right} f))
      ⊢ iprop(((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (outQ i n x0 x1 x4 x5 x8 x10 x11) ∗ owns (c : Thread nD τ) arg16 fullShare (outK i n x2 x3 x6 x7 x9 x10 x11)
            ∗ owns (c : Thread nD τ) arg17 fullShare (sumQ i n x0 x1 x4 x5 x10 x11 (k0_pay1 (F := F))) ∗ owns (c : Thread nD τ) arg18 fullShare (sumK i n x2 x3 x6 x7 x10 x11 (k0_pay2 (F := F))) ∗ (((c : Thread nD τ).loc main_arg11) ↦{fullShare.right} f)) -∗ K ⟨⟩)
        -∗ wp frame (wpE (defs₀ (F := F)) Variants.none c none) Set.univ (cc0_qk_norm_rope_bwd i (Memref.whole main_arg11) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) := by
  simp only [cc0_qk_norm_rope_bwd_eq_skeleton]
  unfold cc0_qk_norm_rope_bwd_skel
  simp only [k0_part1_eq_skeleton, k0_part2_eq_skeleton, k0_part3_eq_skeleton, k0_part4_eq_skeleton]
  rw [dif_pos h1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%a, %f14, %hf14, H14⟩, ⟨%b, %f15, %hf15, H15⟩, Ht⟩ Hk
  subst hf0 hf1 hf2 hf3 hf4 hf5 hf6 hf7 hf8 hf9 hf10 hf11 hf12 hf13 hf14 hf15
  sl_exec
  iapply (wp_load_rect Variants.none (c : Thread nD τ) none Set.univ (m := Memref.whole main_arg11) (r := Rect.unit (s := S4) (k0_off1 i) S1.size (k0_off1_inb i)) (Finset.subset_univ _)) $$ Ht
  iintro Ht
  rw [wp_ret]
  imodintro
  beta_reduce
  rw [hn, dif_pos h2, dif_neg h3]
  sl_exec
  rw [wp_ret]
  imodintro
  iapply Hk
  isplitl [H0]; · iapply (owns_read c _ f0); iexact H0
  isplitl [H1]; · iapply (owns_read c _ f1); iexact H1
  isplitl [H2]; · iapply (owns_read c _ f2); iexact H2
  isplitl [H3]; · iapply (owns_read c _ f3); iexact H3
  isplitl [H4]; · iapply (owns_read c _ f4); iexact H4
  isplitl [H5]; · iapply (owns_read c _ f5); iexact H5
  isplitl [H6]; · iapply (owns_read c _ f6); iexact H6
  isplitl [H7]; · iapply (owns_read c _ f7); iexact H7
  isplitl [H8]; · iapply (owns_read c _ f8); iexact H8
  isplitl [H9]; · iapply (owns_read c _ f9); iexact H9
  isplitl [H10]; · iapply (owns_read c _ f10); iexact H10
  isplitl [H11]; · iapply (owns_read c _ f11); iexact H11
  isplitl [H12]
  · iexists _; isplitr
    swap; · iexact H12
    ipureintro; refine (View.read_writes_full _ _ _ _ _).trans ?_
    unfold outQ liveRows; delta sound_first_live.sl.r sound_first_live.sl.r_1 sound_first_live.sl.r_2 sound_first_live.sl.r_3 sound_first_live.sl.r_4 sound_first_live.sl.r_5 sound_first_live.sl.r_6 sound_first_live.sl.r_7 sound_first_live.sl.r_8 sound_first_live.sl.r_9 sound_first_live.sl.r_10 sound_first_live.sl.r_11 sound_first_live.sl.r_12; simp only [View.readAt_full, rd4q, rd3q, rd4k, rd3k, rd2, rd3p, rd2s]
  isplitl [H13]
  · iexists _; isplitr
    swap; · iexact H13
    ipureintro; refine (View.read_writes_full _ _ _ _ _).trans ?_
    unfold outK liveRows; delta sound_first_live.sl.r sound_first_live.sl.r_1 sound_first_live.sl.r_2 sound_first_live.sl.r_3 sound_first_live.sl.r_4 sound_first_live.sl.r_5 sound_first_live.sl.r_6 sound_first_live.sl.r_7 sound_first_live.sl.r_8 sound_first_live.sl.r_9 sound_first_live.sl.r_10 sound_first_live.sl.r_11 sound_first_live.sl.r_12; simp only [View.readAt_full, rd4q, rd3q, rd4k, rd3k, rd2, rd3p, rd2s]
  isplitl [H14]
  · iexists _; isplitr
    swap; · iexact H14
    ipureintro; refine (View.read_writes_full _ _ _ _ _).trans ?_
    rw [show sound_first_live.sl.v80 c arg17 = k0_pay1 (F := F) from View.readCov_full _ _ _ _ _]
    unfold sumQ liveRows; delta sound_first_live.sl.r sound_first_live.sl.r_1 sound_first_live.sl.r_2 sound_first_live.sl.r_3 sound_first_live.sl.r_4 sound_first_live.sl.r_5 sound_first_live.sl.r_6 sound_first_live.sl.r_7 sound_first_live.sl.r_8 sound_first_live.sl.r_9 sound_first_live.sl.r_10 sound_first_live.sl.r_11 sound_first_live.sl.r_12; simp only [View.readAt_full, rd4q, rd3q, rd4k, rd3k, rd2, rd3p, rd2s]
  isplitl [H15]
  · iexists _; isplitr
    swap; · iexact H15
    ipureintro; refine (View.read_writes_full _ _ _ _ _).trans ?_
    rw [show sound_first_live.sl.v147 c arg18 = k0_pay2 (F := F) from View.readCov_full _ _ _ _ _]
    unfold sumK liveRows; delta sound_first_live.sl.r sound_first_live.sl.r_1 sound_first_live.sl.r_2 sound_first_live.sl.r_3 sound_first_live.sl.r_4 sound_first_live.sl.r_5 sound_first_live.sl.r_6 sound_first_live.sl.r_7 sound_first_live.sl.r_8 sound_first_live.sl.r_9 sound_first_live.sl.r_10 sound_first_live.sl.r_11 sound_first_live.sl.r_12; simp only [View.readAt_full, rd4q, rd3q, rd4k, rd3k, rd2, rd3p, rd2s]
  iexact Ht

set_option maxHeartbeats 4000000 in
/-- A point with no live token, after the first. -/
theorem sound_next_dead (c : Dev nD) (f : Buf (Elt F) ((c : Thread nD τ).loc main_arg11)) (n : BitVec 32)
    (hn : ((Memref.whole main_arg11).access (Rect.unit (s := S4) (k0_off1 i) S1.size (k0_off1_inb i))).read (Elt F) f (Shape.Idx.first (numel1_S1.symm ▸ Nat.one_pos)) = n)
    (h1 : ¬k0_cond1 i = 1#1) (h2 : ¬k0_cond2 i n = 1#1) (h3 : k0_cond3 i n = 1#1)
    (arg3 : Memref sig .tc .vmem S1x64x40x128 .fp8e5m2) (harg3 : arg3.IsWhole) (arg4 : Memref sig .tc .vmem S1x64x40 .f32) (harg4 : arg4.IsWhole) (arg5 : Memref sig .tc .vmem S1x64x8x128 .fp8e5m2) (harg5 : arg5.IsWhole) (arg6 : Memref sig .tc .vmem S1x64x8 .f32) (harg6 : arg6.IsWhole) (arg7 : Memref sig .tc .vmem S1x64x40x128 .fp8e4m3) (harg7 : arg7.IsWhole) (arg8 : Memref sig .tc .vmem S1x64x40 .f32) (harg8 : arg8.IsWhole) (arg9 : Memref sig .tc .vmem S1x64x8x128 .fp8e4m3) (harg9 : arg9.IsWhole) (arg10 : Memref sig .tc .vmem S1x64x8 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x64x1 .i32) (harg13 : arg13.IsWhole) (arg14 : Memref sig .tc .vmem S1x128 .f32) (harg14 : arg14.IsWhole) (arg15 : Memref sig .tc .vmem S1x64x40x128 .bf16) (harg15 : arg15.IsWhole) (arg16 : Memref sig .tc .vmem S1x64x8x128 .bf16) (harg16 : arg16.IsWhole) (arg17 : Memref sig .tc .vmem S8x128 .f32) (harg17 : arg17.IsWhole) (arg18 : Memref sig .tc .vmem S8x128 .f32) (harg18 : arg18.IsWhole)
    (x0 : Vec F S1x64x40x128 .fp8e5m2) (x1 : Vec F S1x64x40 .f32) (x2 : Vec F S1x64x8x128 .fp8e5m2) (x3 : Vec F S1x64x8 .f32) (x4 : Vec F S1x64x40x128 .fp8e4m3) (x5 : Vec F S1x64x40 .f32) (x6 : Vec F S1x64x8x128 .fp8e4m3) (x7 : Vec F S1x64x8 .f32) (x8 : Vec F S1x128 .f32) (x9 : Vec F S1x128 .f32) (x10 : Vec F S1x64x1 .i32) (x11 : Vec F S1x128 .f32) (a b : Vec F S8x128 .f32) {K : PUnit.{1} → sProp 𝕄} :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d)
        ∗ owns (c : Thread nD τ) arg17 fullShare a ∗ owns (c : Thread nD τ) arg18 fullShare b ∗ (((c : Thread nD τ).loc main_arg11) ↦{fullShare.right} f))
      ⊢ iprop(((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare ((k0_pay4 (F := F))) ∗ owns (c : Thread nD τ) arg16 fullShare ((k0_pay5 (F := F)))
            ∗ owns (c : Thread nD τ) arg17 fullShare (a) ∗ owns (c : Thread nD τ) arg18 fullShare (b) ∗ (((c : Thread nD τ).loc main_arg11) ↦{fullShare.right} f)) -∗ K ⟨⟩)
        -∗ wp frame (wpE (defs₀ (F := F)) Variants.none c none) Set.univ (cc0_qk_norm_rope_bwd i (Memref.whole main_arg11) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) := by
  simp only [cc0_qk_norm_rope_bwd_eq_skeleton]
  unfold cc0_qk_norm_rope_bwd_skel
  rw [dif_neg h1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%f14, %hf14, H14⟩, ⟨%f15, %hf15, H15⟩, Ht⟩ Hk
  subst hf0 hf1 hf2 hf3 hf4 hf5 hf6 hf7 hf8 hf9 hf10 hf11 hf12 hf13 hf14 hf15
  sl_exec
  iapply (wp_load_rect Variants.none (c : Thread nD τ) none Set.univ (m := Memref.whole main_arg11) (r := Rect.unit (s := S4) (k0_off1 i) S1.size (k0_off1_inb i)) (Finset.subset_univ _)) $$ Ht
  iintro Ht
  rw [wp_ret]
  imodintro
  beta_reduce
  rw [hn, dif_neg h2, dif_pos h3]
  sl_exec
  rw [wp_ret]
  imodintro
  iapply Hk
  isplitl [H0]; · iapply (owns_read c _ f0); iexact H0
  isplitl [H1]; · iapply (owns_read c _ f1); iexact H1
  isplitl [H2]; · iapply (owns_read c _ f2); iexact H2
  isplitl [H3]; · iapply (owns_read c _ f3); iexact H3
  isplitl [H4]; · iapply (owns_read c _ f4); iexact H4
  isplitl [H5]; · iapply (owns_read c _ f5); iexact H5
  isplitl [H6]; · iapply (owns_read c _ f6); iexact H6
  isplitl [H7]; · iapply (owns_read c _ f7); iexact H7
  isplitl [H8]; · iapply (owns_read c _ f8); iexact H8
  isplitl [H9]; · iapply (owns_read c _ f9); iexact H9
  isplitl [H10]; · iapply (owns_read c _ f10); iexact H10
  isplitl [H11]; · iapply (owns_read c _ f11); iexact H11
  isplitl [H12]
  · iexists _; isplitr
    swap; · iexact H12
    ipureintro; refine (View.read_writes_full _ _ _ _ _).trans ?_
    rfl
  isplitl [H13]
  · iexists _; isplitr
    swap; · iexact H13
    ipureintro; refine (View.read_writes_full _ _ _ _ _).trans ?_
    rfl
  isplitl [H14]
  · iexists _; isplitr
    swap; · iexact H14
    ipureintro; rfl
  isplitl [H15]
  · iexists _; isplitr
    swap; · iexact H15
    ipureintro; rfl
  iexact Ht

set_option maxHeartbeats 4000000 in
/-- The first point, with no live token. -/
theorem sound_first_dead (c : Dev nD) (f : Buf (Elt F) ((c : Thread nD τ).loc main_arg11)) (n : BitVec 32)
    (hn : ((Memref.whole main_arg11).access (Rect.unit (s := S4) (k0_off1 i) S1.size (k0_off1_inb i))).read (Elt F) f (Shape.Idx.first (numel1_S1.symm ▸ Nat.one_pos)) = n)
    (h1 : k0_cond1 i = 1#1) (h2 : ¬k0_cond2 i n = 1#1) (h3 : k0_cond3 i n = 1#1)
    (arg3 : Memref sig .tc .vmem S1x64x40x128 .fp8e5m2) (harg3 : arg3.IsWhole) (arg4 : Memref sig .tc .vmem S1x64x40 .f32) (harg4 : arg4.IsWhole) (arg5 : Memref sig .tc .vmem S1x64x8x128 .fp8e5m2) (harg5 : arg5.IsWhole) (arg6 : Memref sig .tc .vmem S1x64x8 .f32) (harg6 : arg6.IsWhole) (arg7 : Memref sig .tc .vmem S1x64x40x128 .fp8e4m3) (harg7 : arg7.IsWhole) (arg8 : Memref sig .tc .vmem S1x64x40 .f32) (harg8 : arg8.IsWhole) (arg9 : Memref sig .tc .vmem S1x64x8x128 .fp8e4m3) (harg9 : arg9.IsWhole) (arg10 : Memref sig .tc .vmem S1x64x8 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x64x1 .i32) (harg13 : arg13.IsWhole) (arg14 : Memref sig .tc .vmem S1x128 .f32) (harg14 : arg14.IsWhole) (arg15 : Memref sig .tc .vmem S1x64x40x128 .bf16) (harg15 : arg15.IsWhole) (arg16 : Memref sig .tc .vmem S1x64x8x128 .bf16) (harg16 : arg16.IsWhole) (arg17 : Memref sig .tc .vmem S8x128 .f32) (harg17 : arg17.IsWhole) (arg18 : Memref sig .tc .vmem S8x128 .f32) (harg18 : arg18.IsWhole)
    (x0 : Vec F S1x64x40x128 .fp8e5m2) (x1 : Vec F S1x64x40 .f32) (x2 : Vec F S1x64x8x128 .fp8e5m2) (x3 : Vec F S1x64x8 .f32) (x4 : Vec F S1x64x40x128 .fp8e4m3) (x5 : Vec F S1x64x40 .f32) (x6 : Vec F S1x64x8x128 .fp8e4m3) (x7 : Vec F S1x64x8 .f32) (x8 : Vec F S1x128 .f32) (x9 : Vec F S1x128 .f32) (x10 : Vec F S1x64x1 .i32) (x11 : Vec F S1x128 .f32) {K : PUnit.{1} → sProp 𝕄} :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d)
        ∗ (∃ a, owns (c : Thread nD τ) arg17 fullShare a) ∗ (∃ b, owns (c : Thread nD τ) arg18 fullShare b) ∗ (((c : Thread nD τ).loc main_arg11) ↦{fullShare.right} f))
      ⊢ iprop(((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare ((k0_pay4 (F := F))) ∗ owns (c : Thread nD τ) arg16 fullShare ((k0_pay5 (F := F)))
            ∗ owns (c : Thread nD τ) arg17 fullShare ((k0_pay1 (F := F))) ∗ owns (c : Thread nD τ) arg18 fullShare ((k0_pay2 (F := F))) ∗ (((c : Thread nD τ).loc main_arg11) ↦{fullShare.right} f)) -∗ K ⟨⟩)
        -∗ wp frame (wpE (defs₀ (F := F)) Variants.none c none) Set.univ (cc0_qk_norm_rope_bwd i (Memref.whole main_arg11) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) := by
  simp only [cc0_qk_norm_rope_bwd_eq_skeleton]
  unfold cc0_qk_norm_rope_bwd_skel
  rw [dif_pos h1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%a, %f14, %hf14, H14⟩, ⟨%b, %f15, %hf15, H15⟩, Ht⟩ Hk
  subst hf0 hf1 hf2 hf3 hf4 hf5 hf6 hf7 hf8 hf9 hf10 hf11 hf12 hf13 hf14 hf15
  sl_exec
  iapply (wp_load_rect Variants.none (c : Thread nD τ) none Set.univ (m := Memref.whole main_arg11) (r := Rect.unit (s := S4) (k0_off1 i) S1.size (k0_off1_inb i)) (Finset.subset_univ _)) $$ Ht
  iintro Ht
  rw [wp_ret]
  imodintro
  beta_reduce
  rw [hn, dif_neg h2, dif_pos h3]
  sl_exec
  rw [wp_ret]
  imodintro
  iapply Hk
  isplitl [H0]; · iapply (owns_read c _ f0); iexact H0
  isplitl [H1]; · iapply (owns_read c _ f1); iexact H1
  isplitl [H2]; · iapply (owns_read c _ f2); iexact H2
  isplitl [H3]; · iapply (owns_read c _ f3); iexact H3
  isplitl [H4]; · iapply (owns_read c _ f4); iexact H4
  isplitl [H5]; · iapply (owns_read c _ f5); iexact H5
  isplitl [H6]; · iapply (owns_read c _ f6); iexact H6
  isplitl [H7]; · iapply (owns_read c _ f7); iexact H7
  isplitl [H8]; · iapply (owns_read c _ f8); iexact H8
  isplitl [H9]; · iapply (owns_read c _ f9); iexact H9
  isplitl [H10]; · iapply (owns_read c _ f10); iexact H10
  isplitl [H11]; · iapply (owns_read c _ f11); iexact H11
  isplitl [H12]
  · iexists _; isplitr
    swap; · iexact H12
    ipureintro; refine (View.read_writes_full _ _ _ _ _).trans ?_
    rfl
  isplitl [H13]
  · iexists _; isplitr
    swap; · iexact H13
    ipureintro; refine (View.read_writes_full _ _ _ _ _).trans ?_
    rfl
  isplitl [H14]
  · iexists _; isplitr
    swap; · iexact H14
    ipureintro; refine (View.read_writes_full _ _ _ _ _).trans ?_
    rfl
  isplitl [H15]
  · iexists _; isplitr
    swap; · iexact H15
    ipureintro; refine (View.read_writes_full _ _ _ _ _).trans ?_
    rfl
  iexact Ht

end Cert.Kernel.Run

end
-- ==== Proof.KernelData.lean ====
/- The proof data of `Kernel`'s one region, generic in the float semantics: what every buffer holds after the body at
   every grid point. An input's buffer holds its block, a gradient's the block written there, and the two sums of the norm
   weights' gradients run through the points (`sumsQ`, `sumsK`), growing at the points with a live token only. -/
module

public import proofs.«01_k».proof.Proof.KernelBody

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Every buffer when the region is entered: after the host operations before it; -/
abbrev V₀ (c : Dev nD) : Valuation τ sig (Elt F) := StableHlo.after hostOps0 (fun b => m (c, b))
/-- the TensorCore's. -/
abbrev V (c : Dev nD) (b : Ref sig .tc) : Buf (Elt F) ((c : Thread nD τ).loc b) := V₀ m c b

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the operations before the region, the region, and the operations after it. -/
theorem hmain : Pipeline.HMainPK (Ix := Unit) (Name := ℕ) (U := UR sig nD τ) (Lvl := ℕ) (pcfgs (F := F)) 0 defs₀ Variants.none m (main (F := F)) (V m)
    (fun _ => Pipeline.chain (([hostOps1] : List (List (HloOp τ sig (Elt F)))).map StableHlo.seq)) :=
  Pipeline.hmainP_around pcfgs 0 defs₀ Variants.none m main [hostOps0] [hostOps1] hostOps0_sub hostOps0_fresh main_chain

/-- A buffer that no operation before the region writes, such as an argument, is as it was. -/
theorem V_kept (c : Dev nD) (b : Ref sig .tc) (h : b ∉ ([main_v0, main_cst, main_v1, main_v2, main_cst_0, main_v3, main_v4, main_v5, main_cst_1, main_v6, main_v7,
    main_v8, main_v9, main_v10, main_v11, main_v12] : List (Ref sig .tc))) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne fun e => h (by rw [e]; decide)))

/-! ## The grid's points -/

/-- The region's pipeline at the table's contents. -/
abbrev C : Cfg sig Λ₀ := Pipeline.pin (pcfgs (F := F)) (adm m) 0
/-- The coordinates of point `t`: its sequence and its block of 64 tokens. -/
abbrev pt (t : Fin (C m).N) : grid0.Coords := grid0.coords t
/-- The length of point `t`'s sequence. -/
abbrev lenAt (t : Fin (C m).N) : BitVec 32 := len (pf m) (pt m t)

/-- The first point is the one that starts the sums. -/
theorem cond1_iff (t : Fin grid0.N) : k0_cond1 (grid0.coords t) = 1#1 ↔ t.val = 0 :=
  (by decide +kernel : ∀ t : Fin grid0.N, k0_cond1 (grid0.coords t) = 1#1 ↔ t.val = 0) t

theorem ne_of_ofBool (b : Bool) : Scalar.cmpi .ne (Scalar.extui (BitVec.ofBool b) : BitVec 32) 0#32 = BitVec.ofBool b := by
  cases b <;> rfl

/-- A point has a live token if its first one is below the sequence's length, and no live token otherwise. -/
theorem cond2_iff (i : grid0.Coords) (n : BitVec 32) : k0_cond2 i n = 1#1 ↔ (Scalar.muli (BitVec.ofNat 32 (i 1).val) 64#32).slt n = true := by
  show Scalar.cmpi .ne (Scalar.extui (BitVec.ofBool ((Scalar.muli (BitVec.ofNat 32 (i 1).val) 64#32).slt n))) 0#32 = 1#1 ↔ _
  rw [ne_of_ofBool]
  cases (Scalar.muli (BitVec.ofNat 32 (i 1).val) 64#32).slt n <;> decide
theorem cond3_iff (i : grid0.Coords) (n : BitVec 32) : k0_cond3 i n = 1#1 ↔ ¬k0_cond2 i n = 1#1 := by
  rw [cond2_iff]
  show Scalar.cmpi .ne (Scalar.extui (BitVec.ofBool (n.sle (Scalar.muli (BitVec.ofNat 32 (i 1).val) 64#32)))) 0#32 = 1#1 ↔ _
  rw [ne_of_ofBool]
  unfold BitVec.sle BitVec.slt
  by_cases h : (Scalar.muli (BitVec.ofNat 32 (i 1).val) 64#32).toInt < n.toInt
  · rw [decide_eq_false (not_le.mpr h), decide_eq_true h]; decide
  · rw [decide_eq_true (not_lt.mp h), decide_eq_false h]; decide

/-- The table's word the schedule reads at a point is the one its body loads. -/
theorem atD_eq (p : pre0.Contents (Elt F)) (i : grid0.Coords) : p.atD 0 (k0_off1 i) = len p i := by
  unfold Pipeline.Prefetch.Contents.atD len
  split
  · refine congrArg (p 0) ?_
    funext a
    exact Fin.ext (by fin_cases a; rfl)
  · rename_i h
    exact absurd (fun a => by fin_cases a; exact k0_off1_inb i 0) h

/-! ## The blocks and the sums -/

/-- Window `w`'s block at point `t`, read off its array as the region finds it. -/
def iblk (c : Dev nD) (w : Fin (C m).W) (t : Fin (C m).N) : (((C m).win w).xblock ((C m).grid.coords t)).Idx → Elt F ((C m).win w).elt :=
  (((C m).win w).blk t).view.read (Elt F) (V m c (Pipeline.arrRef spec0 w))

/-- The blocks of the two gradients the body writes at point `t`, -/
def resQ (c : Dev nD) (t : Fin (C m).N) : Vec F S1x64x40x128 .bf16 :=
  if k0_cond2 (pt m t) (lenAt m t) = 1#1 then outQ (pt m t) (lenAt m t) (iblk m c 0 t) (iblk m c 1 t) (iblk m c 4 t) (iblk m c 5 t) (iblk m c 8 t) (iblk m c 10 t) (iblk m c 11 t) else k0_pay4
def resK (c : Dev nD) (t : Fin (C m).N) : Vec F S1x64x8x128 .bf16 :=
  if k0_cond2 (pt m t) (lenAt m t) = 1#1 then outK (pt m t) (lenAt m t) (iblk m c 2 t) (iblk m c 3 t) (iblk m c 6 t) (iblk m c 7 t) (iblk m c 9 t) (iblk m c 10 t) (iblk m c 11 t) else k0_pay5
/-- and the two sums over the points before point `n`. -/
def sumsQ (c : Dev nD) : ℕ → Vec F S8x128 .f32
  | 0 => k0_pay1
  | n + 1 => if h : n < (C m).N then
      let t : Fin (C m).N := ⟨n, h⟩
      if k0_cond2 (pt m t) (lenAt m t) = 1#1 then sumQ (pt m t) (lenAt m t) (iblk m c 0 t) (iblk m c 1 t) (iblk m c 4 t) (iblk m c 5 t) (iblk m c 10 t) (iblk m c 11 t) (sumsQ c n) else sumsQ c n
    else sumsQ c n
def sumsK (c : Dev nD) : ℕ → Vec F S8x128 .f32
  | 0 => k0_pay2
  | n + 1 => if h : n < (C m).N then
      let t : Fin (C m).N := ⟨n, h⟩
      if k0_cond2 (pt m t) (lenAt m t) = 1#1 then sumK (pt m t) (lenAt m t) (iblk m c 2 t) (iblk m c 3 t) (iblk m c 6 t) (iblk m c 7 t) (iblk m c 10 t) (iblk m c 11 t) (sumsK c n) else sumsK c n
    else sumsK c n

section Steps
variable (c : Dev nD) (t : Fin (C m).N)
theorem resQ_live (h : k0_cond2 (pt m t) (lenAt m t) = 1#1) : resQ m c t = outQ (pt m t) (lenAt m t) (iblk m c 0 t) (iblk m c 1 t) (iblk m c 4 t) (iblk m c 5 t) (iblk m c 8 t) (iblk m c 10 t) (iblk m c 11 t) := if_pos h
theorem resQ_dead (h : ¬k0_cond2 (pt m t) (lenAt m t) = 1#1) : resQ m c t = k0_pay4 := if_neg h
theorem resK_live (h : k0_cond2 (pt m t) (lenAt m t) = 1#1) : resK m c t = outK (pt m t) (lenAt m t) (iblk m c 2 t) (iblk m c 3 t) (iblk m c 6 t) (iblk m c 7 t) (iblk m c 9 t) (iblk m c 10 t) (iblk m c 11 t) := if_pos h
theorem resK_dead (h : ¬k0_cond2 (pt m t) (lenAt m t) = 1#1) : resK m c t = k0_pay5 := if_neg h
theorem sumsQ_live (h : k0_cond2 (pt m t) (lenAt m t) = 1#1) : sumsQ m c (t.val + 1) = sumQ (pt m t) (lenAt m t) (iblk m c 0 t) (iblk m c 1 t) (iblk m c 4 t) (iblk m c 5 t) (iblk m c 10 t) (iblk m c 11 t) (sumsQ m c t.val) := by
  rw [sumsQ, dif_pos t.isLt]; exact if_pos h
theorem sumsQ_dead (h : ¬k0_cond2 (pt m t) (lenAt m t) = 1#1) : sumsQ m c (t.val + 1) = sumsQ m c t.val := by
  rw [sumsQ, dif_pos t.isLt]; exact if_neg h
theorem sumsK_live (h : k0_cond2 (pt m t) (lenAt m t) = 1#1) : sumsK m c (t.val + 1) = sumK (pt m t) (lenAt m t) (iblk m c 2 t) (iblk m c 3 t) (iblk m c 6 t) (iblk m c 7 t) (iblk m c 10 t) (iblk m c 11 t) (sumsK m c t.val) := by
  rw [sumsK, dif_pos t.isLt]; exact if_pos h
theorem sumsK_dead (h : ¬k0_cond2 (pt m t) (lenAt m t) = 1#1) : sumsK m c (t.val + 1) = sumsK m c t.val := by
  rw [sumsK, dif_pos t.isLt]; exact if_neg h
end Steps

/-- The proof data on core `c`: the arrays as the region finds them; the buffers after the body at each point; the
    invariant the class's, with the table at the share the body loads it through; nothing owed. -/
def dats (_ : Fin 1) (c : Dev nD) : Dat τ (Elt F) Unit ℕ (UR sig nD τ) ℕ (C m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => resQ m c t
    | ⟨13, _⟩ => resK m c t
    | ⟨14, _⟩ => sumsQ m c (t.val + 1)
    | ⟨15, _⟩ => sumsK m c (t.val + 1)
    | ⟨_ + 16, h⟩ => absurd h (Nat.not_lt.2 (Nat.le_add_left _ _))
  Φ _ := iprop(Pipeline.ΦA spec0 c ∗ Pipeline.ΦT pre0 (pf m) c)
  q _ := fullShare
  owed _ := 0

theorem A_eq (c : Dev nD) (w : Fin (C m).W) : (dats m 0 c).A w = V m c (Pipeline.arrRef spec0 w) := by dsimp only [dats]
theorem after_0 (c : Dev nD) (t : Fin (C m).N) : (dats m 0 c).after 0 t = iblk m c 0 t := rfl
theorem after_1 (c : Dev nD) (t : Fin (C m).N) : (dats m 0 c).after 1 t = iblk m c 1 t := rfl
theorem after_2 (c : Dev nD) (t : Fin (C m).N) : (dats m 0 c).after 2 t = iblk m c 2 t := rfl
theorem after_3 (c : Dev nD) (t : Fin (C m).N) : (dats m 0 c).after 3 t = iblk m c 3 t := rfl
theorem after_4 (c : Dev nD) (t : Fin (C m).N) : (dats m 0 c).after 4 t = iblk m c 4 t := rfl
theorem after_5 (c : Dev nD) (t : Fin (C m).N) : (dats m 0 c).after 5 t = iblk m c 5 t := rfl
theorem after_6 (c : Dev nD) (t : Fin (C m).N) : (dats m 0 c).after 6 t = iblk m c 6 t := rfl
theorem after_7 (c : Dev nD) (t : Fin (C m).N) : (dats m 0 c).after 7 t = iblk m c 7 t := rfl
theorem after_8 (c : Dev nD) (t : Fin (C m).N) : (dats m 0 c).after 8 t = iblk m c 8 t := rfl
theorem after_9 (c : Dev nD) (t : Fin (C m).N) : (dats m 0 c).after 9 t = iblk m c 9 t := rfl
theorem after_10 (c : Dev nD) (t : Fin (C m).N) : (dats m 0 c).after 10 t = iblk m c 10 t := rfl
theorem after_11 (c : Dev nD) (t : Fin (C m).N) : (dats m 0 c).after 11 t = iblk m c 11 t := rfl
theorem after_12 (c : Dev nD) (t : Fin (C m).N) : (dats m 0 c).after 12 t = resQ m c t := rfl
theorem after_13 (c : Dev nD) (t : Fin (C m).N) : (dats m 0 c).after 13 t = resK m c t := rfl
theorem after_14 (c : Dev nD) (t : Fin (C m).N) : (dats m 0 c).after 14 t = sumsQ m c (t.val + 1) := rfl
theorem after_15 (c : Dev nD) (t : Fin (C m).N) : (dats m 0 c).after 15 t = sumsK m c (t.val + 1) := rfl

/-! ## What the body finds -/

/-- An input's buffer holds its block at every point, whether the point fetches it or a point before did. -/
theorem before_in (c : Dev nD) (w : Fin (C m).W) (hw : ((C m).win w).isOut = false) (hlive : ∀ i, (C m).idle w i = false)
    (hclip : ∀ t t' : Fin (C m).N, ((C m).win w).index t = ((C m).win w).index t' → ((C m).win w).clip ((C m).grid.coords t) = ((C m).win w).clip ((C m).grid.coords t'))
    (hafter : ∀ t, ((C m).win w).cut ((C m).grid.coords t) ((dats m 0 c).after w t) = iblk m c w t) (t : Fin (C m).N) (d) :
    (dats m 0 c).before w t d = (dats m 0 c).fetched w t d :=
  (dats m 0 c).before_in_eq_fetched w hw hlive hclip (fun t => by rw [hafter]; unfold Dat.blockOf iblk; rw [A_eq]) t d

theorem before_0 (c : Dev nD) (t : Fin (C m).N) (d) : (dats m 0 c).before 0 t d = iblk m c 0 t := (before_in m c 0 rfl (fun _ => rfl) (fun _ _ _ => rfl) (fun _ => rfl) t d).trans rfl
theorem before_1 (c : Dev nD) (t : Fin (C m).N) (d) : (dats m 0 c).before 1 t d = iblk m c 1 t := (before_in m c 1 rfl (fun _ => rfl) (fun _ _ _ => rfl) (fun _ => rfl) t d).trans rfl
theorem before_2 (c : Dev nD) (t : Fin (C m).N) (d) : (dats m 0 c).before 2 t d = iblk m c 2 t := (before_in m c 2 rfl (fun _ => rfl) (fun _ _ _ => rfl) (fun _ => rfl) t d).trans rfl
theorem before_3 (c : Dev nD) (t : Fin (C m).N) (d) : (dats m 0 c).before 3 t d = iblk m c 3 t := (before_in m c 3 rfl (fun _ => rfl) (fun _ _ _ => rfl) (fun _ => rfl) t d).trans rfl
theorem before_4 (c : Dev nD) (t : Fin (C m).N) (d) : (dats m 0 c).before 4 t d = iblk m c 4 t := (before_in m c 4 rfl (fun _ => rfl) (fun _ _ _ => rfl) (fun _ => rfl) t d).trans rfl
theorem before_5 (c : Dev nD) (t : Fin (C m).N) (d) : (dats m 0 c).before 5 t d = iblk m c 5 t := (before_in m c 5 rfl (fun _ => rfl) (fun _ _ _ => rfl) (fun _ => rfl) t d).trans rfl
theorem before_6 (c : Dev nD) (t : Fin (C m).N) (d) : (dats m 0 c).before 6 t d = iblk m c 6 t := (before_in m c 6 rfl (fun _ => rfl) (fun _ _ _ => rfl) (fun _ => rfl) t d).trans rfl
theorem before_7 (c : Dev nD) (t : Fin (C m).N) (d) : (dats m 0 c).before 7 t d = iblk m c 7 t := (before_in m c 7 rfl (fun _ => rfl) (fun _ _ _ => rfl) (fun _ => rfl) t d).trans rfl
theorem before_8 (c : Dev nD) (t : Fin (C m).N) (d) : (dats m 0 c).before 8 t d = iblk m c 8 t := (before_in m c 8 rfl (fun _ => rfl) (fun _ _ _ => rfl) (fun _ => rfl) t d).trans rfl
theorem before_9 (c : Dev nD) (t : Fin (C m).N) (d) : (dats m 0 c).before 9 t d = iblk m c 9 t := (before_in m c 9 rfl (fun _ => rfl) (fun _ _ _ => rfl) (fun _ => rfl) t d).trans rfl
theorem before_10 (c : Dev nD) (t : Fin (C m).N) (d) : (dats m 0 c).before 10 t d = iblk m c 10 t := (before_in m c 10 rfl (fun _ => rfl) (fun _ _ _ => rfl) (fun _ => rfl) t d).trans rfl
theorem before_11 (c : Dev nD) (t : Fin (C m).N) (d) : (dats m 0 c).before 11 t d = iblk m c 11 t := (before_in m c 11 rfl (fun _ => rfl) (fun _ _ _ => rfl) (fun _ => rfl) t d).trans rfl

/-- The gradients' blocks are written at every point; -/
theorem idle_12 (t : Fin (C m).N) : (C m).idle 12 ((C m).grid.coords t) = false := by
  show (!(k0_cond2 (pt m t) ((pf m).atD 0 (k0_off1 (pt m t))) == 1#1) && !(k0_cond3 (pt m t) ((pf m).atD 0 (k0_off1 (pt m t))) == 1#1)) = false
  rw [atD_eq]
  by_cases h : k0_cond2 (pt m t) (lenAt m t) = 1#1
  · rw [show len (pf m) (pt m t) = lenAt m t from rfl, h]; rfl
  · rw [show len (pf m) (pt m t) = lenAt m t from rfl, (cond3_iff _ _).mpr h]; exact Bool.and_false _
theorem idle_13 (t : Fin (C m).N) : (C m).idle 13 ((C m).grid.coords t) = false := idle_12 m t
/-- the sums are left alone at a point after the first with no live token. -/
theorem idle_14 (t : Fin (C m).N) : (C m).idle 14 ((C m).grid.coords t) = (!(k0_cond1 (pt m t) == 1#1) && !(k0_cond2 (pt m t) (lenAt m t) == 1#1)) := by
  show (!(k0_cond1 (pt m t) == 1#1) && !(k0_cond2 (pt m t) ((pf m).atD 0 (k0_off1 (pt m t))) == 1#1)) = _
  rw [atD_eq]
theorem idle_15 (t : Fin (C m).N) : (C m).idle 15 ((C m).grid.coords t) = (!(k0_cond1 (pt m t) == 1#1) && !(k0_cond2 (pt m t) (lenAt m t) == 1#1)) := idle_14 m t

/-- The sums are written back after the last point only. -/
theorem flush_14 (t : Fin (C m).N) : ((C m).win 14).flush t = true ↔ t.val % 512 = 511 :=
  Window.flush_const _ rfl (fun _ _ => rfl) N_0 rfl t
theorem flush_15 (t : Fin (C m).N) : ((C m).win 15).flush t = true ↔ t.val % 512 = 511 :=
  Window.flush_const _ rfl (fun _ _ => rfl) N_0 rfl t

theorem idle_first (t : Fin (C m).N) (h : t.val = 0) : (!(k0_cond1 (pt m t) == 1#1) && !(k0_cond2 (pt m t) (lenAt m t) == 1#1)) = false := by
  rw [(cond1_iff t).mpr h]; rfl

theorem fresh_14 (n : ℕ) (h : n < (C m).N) : (C m).fresh 14 n = decide (n = 0) := by
  have hN : (C m).N = 512 := N_0
  have := (C m).fresh_tab 14 (fun n => decide (n = 0) || decide (n = 512)) rfl (fun t => by
    have ht : t.val < 512 := hN ▸ t.isLt
    by_cases hl : t.val = 511
    · rw [(flush_14 m t).mpr (by omega), hl]; rfl
    · rw [show ((C m).win 14).flush t = false from Bool.eq_false_iff.mpr fun e => hl (by have := (flush_14 m t).mp e; omega)]
      by_cases h0 : t.val = 0
      · rw [idle_14, idle_first m t h0, h0]; rfl
      · simp only [h0, show ¬t.val + 1 = 512 by omega, show ¬t.val = 512 by omega, Nat.succ_ne_zero]; simp) n (Nat.le_of_lt h)
  rw [this, decide_eq_false (show ¬n = 512 by omega), Bool.or_false]

/-- After the first point the body finds the sum over the points before. -/
theorem before_14 (c : Dev nD) (t : Fin (C m).N) (h : t.val ≠ 0) (d) : (dats m 0 c).before 14 t d = sumsQ m c t.val := by
  have hf := fresh_14 m t.val t.isLt
  rw [decide_eq_false h] at hf
  rw [(dats m 0 c).before_out_traj 14 rfl (fun _ _ => rfl) (fun t h0 hi _ => by
    rw [after_14, after_14]
    rw [idle_14] at hi
    rw [sumsQ_dead m c t (fun e => by rw [e] at hi; revert hi; cases (!(k0_cond1 (pt m t) == 1#1)) <;> decide)]
    exact congrArg (sumsQ m c) (show t.val = t.val - 1 + 1 by omega)) t.val t rfl d, hf, if_neg Bool.false_ne_true, after_14]
  exact congrArg (sumsQ m c) (show t.val - 1 + 1 = t.val by omega)

theorem fresh_15 (n : ℕ) (h : n < (C m).N) : (C m).fresh 15 n = decide (n = 0) := by
  have hN : (C m).N = 512 := N_0
  have := (C m).fresh_tab 15 (fun n => decide (n = 0) || decide (n = 512)) rfl (fun t => by
    have ht : t.val < 512 := hN ▸ t.isLt
    by_cases hl : t.val = 511
    · rw [(flush_15 m t).mpr (by omega), hl]; rfl
    · rw [show ((C m).win 15).flush t = false from Bool.eq_false_iff.mpr fun e => hl (by have := (flush_15 m t).mp e; omega)]
      by_cases h0 : t.val = 0
      · rw [idle_15, idle_first m t h0, h0]; rfl
      · simp only [h0, show ¬t.val + 1 = 512 by omega, show ¬t.val = 512 by omega, Nat.succ_ne_zero]; simp) n (Nat.le_of_lt h)
  rw [this, decide_eq_false (show ¬n = 512 by omega), Bool.or_false]

/-- After the first point the body finds the sum over the points before. -/
theorem before_15 (c : Dev nD) (t : Fin (C m).N) (h : t.val ≠ 0) (d) : (dats m 0 c).before 15 t d = sumsK m c t.val := by
  have hf := fresh_15 m t.val t.isLt
  rw [decide_eq_false h] at hf
  rw [(dats m 0 c).before_out_traj 15 rfl (fun _ _ => rfl) (fun t h0 hi _ => by
    rw [after_15, after_15]
    rw [idle_15] at hi
    rw [sumsK_dead m c t (fun e => by rw [e] at hi; revert hi; cases (!(k0_cond1 (pt m t) == 1#1)) <;> decide)]
    exact congrArg (sumsK m c) (show t.val = t.val - 1 + 1 by omega)) t.val t rfl d, hf, if_neg Bool.false_ne_true, after_15]
  exact congrArg (sumsK m c) (show t.val - 1 + 1 = t.val by omega)

end Cert.Kernel.Run

end
-- ==== Proof.KernelFrame.lean ====
/- The run of `Kernel`, generic in the float semantics: the body at every grid point, the region's launch, and the
   frame — every execution ends, no argument changes, every semaphore is back at zero. -/
module

public import proofs.«01_k».proof.Proof.KernelData

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point -/

/-- The memref window `w` is staged in at point `t`. -/
abbrev st (w : Fin (C m).W) (t : Fin (C m).N) := ((C m).win w).stage ((C m).slots t w)

/-- What the body leaves window `w`'s buffer at, as the pipeline asks it. -/
def leaves (c : Dev nD) (t : Fin (C m).N) (w : Fin (C m).W) : sProp 𝕄 :=
  match (C m).idle w ((C m).grid.coords t) with
  | true =>
    match ((C m).win w).flush t with
    | false => iprop(∃ d, owns (c : Thread nD τ) (st m w t) fullShare ((dats m 0 c).before w t d))
    | true => owns (c : Thread nD τ) (st m w t) fullShare ((dats m 0 c).after w t)
  | false => owns (c : Thread nD τ) (st m w t) fullShare ((dats m 0 c).after w t)

theorem leaves_of_stored (c : Dev nD) (t : Fin (C m).N) (w : Fin (C m).W) (h : (C m).idle w ((C m).grid.coords t) = false) :
    owns (c : Thread nD τ) (st m w t) fullShare ((dats m 0 c).after w t) ⊢ leaves m c t w := by
  unfold leaves; rw [h]
/-- A buffer the body leaves as it found it, at what the point before left. -/
theorem leaves_of_kept (c : Dev nD) (t : Fin (C m).N) (w : Fin (C m).W) (h : ∀ d, (dats m 0 c).before w t d = (dats m 0 c).after w t) :
    owns (c : Thread nD τ) (st m w t) fullShare ((dats m 0 c).after w t) ⊢ leaves m c t w := by
  unfold leaves
  cases (C m).idle w ((C m).grid.coords t)
  · exact .rfl
  · cases ((C m).win w).flush t
    · show owns (c : Thread nD τ) (st m w t) fullShare ((dats m 0 c).after w t) ⊢ iprop(∃ d, owns (c : Thread nD τ) (st m w t) fullShare ((dats m 0 c).before w t d))
      iintro H; iexists (dats m 0 c).after w t
      rw [h]; iexact H
    · exact .rfl

/-- The table, as the body holds it. -/
theorem table_eq (c : Dev nD) (v : pre0.Contents (Elt F)) :
    (Pipeline.ΦT pre0 v c : sProp 𝕄) = iprop(((c : Thread nD τ).loc main_arg11) ↦{fullShare.right} (show Buf (Elt F) ((c : Thread nD τ).loc main_arg11) from v 0)) := by
  unfold Pipeline.ΦT Pipeline.prefHeld
  rw [show (Finset.univ : Finset (Fin 1)) = {0} from by decide, bigSep_singleton]
  rfl

/-- The word the body loads from it is the point's sequence length. -/
theorem load_eq (t : Fin (C m).N) : ((Memref.whole main_arg11).access (Rect.unit (s := S4) (k0_off1 (pt m t)) S1.size (k0_off1_inb (pt m t)))).read (Elt F)
    (show Buf (Elt F) (((0 : Dev nD) : Thread nD τ).loc main_arg11) from pf m 0) (Shape.Idx.first (numel1_S1.symm ▸ Nat.one_pos)) = lenAt m t := rfl

/-- The body as the pipeline calls it at point `t`. -/
abbrev bodyAt (t : Fin (C m).N) : Prog (TpuEff nD τ sig (Elt F) Λ₀ .tc) PUnit := defs₀ (F := F) .tc (C m).body ((C m).bodyArgs t ((C m).slots t))

/-- What the body is given at point `t`, -/
def bodyPre (c : Dev nD) (t : Fin (C m).N) : sProp 𝕄 :=
  iprop((dats m 0 c).Φ t.castSucc ∗ (dats m 0 c).owesAt () t.castSucc
    ∗ (∃ d, owns (c : Thread nD τ) (st m 0 t) fullShare ((dats m 0 c).before 0 t d))
    ∗ (∃ d, owns (c : Thread nD τ) (st m 1 t) fullShare ((dats m 0 c).before 1 t d))
    ∗ (∃ d, owns (c : Thread nD τ) (st m 2 t) fullShare ((dats m 0 c).before 2 t d))
    ∗ (∃ d, owns (c : Thread nD τ) (st m 3 t) fullShare ((dats m 0 c).before 3 t d))
    ∗ (∃ d, owns (c : Thread nD τ) (st m 4 t) fullShare ((dats m 0 c).before 4 t d))
    ∗ (∃ d, owns (c : Thread nD τ) (st m 5 t) fullShare ((dats m 0 c).before 5 t d))
    ∗ (∃ d, owns (c : Thread nD τ) (st m 6 t) fullShare ((dats m 0 c).before 6 t d))
    ∗ (∃ d, owns (c : Thread nD τ) (st m 7 t) fullShare ((dats m 0 c).before 7 t d))
    ∗ (∃ d, owns (c : Thread nD τ) (st m 8 t) fullShare ((dats m 0 c).before 8 t d))
    ∗ (∃ d, owns (c : Thread nD τ) (st m 9 t) fullShare ((dats m 0 c).before 9 t d))
    ∗ (∃ d, owns (c : Thread nD τ) (st m 10 t) fullShare ((dats m 0 c).before 10 t d))
    ∗ (∃ d, owns (c : Thread nD τ) (st m 11 t) fullShare ((dats m 0 c).before 11 t d))
    ∗ (∃ d, owns (c : Thread nD τ) (st m 12 t) fullShare ((dats m 0 c).before 12 t d))
    ∗ (∃ d, owns (c : Thread nD τ) (st m 13 t) fullShare ((dats m 0 c).before 13 t d))
    ∗ (∃ d, owns (c : Thread nD τ) (st m 14 t) fullShare ((dats m 0 c).before 14 t d))
    ∗ (∃ d, owns (c : Thread nD τ) (st m 15 t) fullShare ((dats m 0 c).before 15 t d)))
/-- and what it returns. -/
def bodyPost (c : Dev nD) (t : Fin (C m).N) : sProp 𝕄 :=
  iprop((dats m 0 c).Φ t.succ ∗ (dats m 0 c).owesAt () t.succ
    ∗ owns (c : Thread nD τ) (st m 0 t) fullShare ((dats m 0 c).after 0 t)
    ∗ owns (c : Thread nD τ) (st m 1 t) fullShare ((dats m 0 c).after 1 t)
    ∗ owns (c : Thread nD τ) (st m 2 t) fullShare ((dats m 0 c).after 2 t)
    ∗ owns (c : Thread nD τ) (st m 3 t) fullShare ((dats m 0 c).after 3 t)
    ∗ owns (c : Thread nD τ) (st m 4 t) fullShare ((dats m 0 c).after 4 t)
    ∗ owns (c : Thread nD τ) (st m 5 t) fullShare ((dats m 0 c).after 5 t)
    ∗ owns (c : Thread nD τ) (st m 6 t) fullShare ((dats m 0 c).after 6 t)
    ∗ owns (c : Thread nD τ) (st m 7 t) fullShare ((dats m 0 c).after 7 t)
    ∗ owns (c : Thread nD τ) (st m 8 t) fullShare ((dats m 0 c).after 8 t)
    ∗ owns (c : Thread nD τ) (st m 9 t) fullShare ((dats m 0 c).after 9 t)
    ∗ owns (c : Thread nD τ) (st m 10 t) fullShare ((dats m 0 c).after 10 t)
    ∗ owns (c : Thread nD τ) (st m 11 t) fullShare ((dats m 0 c).after 11 t)
    ∗ leaves m c t 12
    ∗ leaves m c t 13
    ∗ leaves m c t 14
    ∗ leaves m c t 15)

theorem one_dev (c : Dev nD) : c = 0 := Subsingleton.elim (α := Fin 1) c 0

set_option maxHeartbeats 4000000 in
/-- The body at a point, from what it does to its buffers there (`hb`): `P14` and `P15` are what it needs of the two sums'
    buffers, and `v12`, `v13`, `v14`, `v15` what it leaves in the outputs'. -/
theorem sound_body_of (t : Fin (C m).N) (P14 P15 : sProp 𝕄) (v12 : Vec F S1x64x40x128 .bf16) (v13 : Vec F S1x64x8x128 .bf16) (v14 v15 : Vec F S8x128 .f32)
    (h14 : ∀ d, owns ((0 : Dev nD) : Thread nD τ) (st m 14 t) fullShare ((dats m 0 0).before 14 t d) ⊢ P14)
    (h15 : ∀ d, owns ((0 : Dev nD) : Thread nD τ) (st m 15 t) fullShare ((dats m 0 0).before 15 t d) ⊢ P15)
    (e12 : owns ((0 : Dev nD) : Thread nD τ) (st m 12 t) fullShare v12 ⊢ leaves m 0 t 12)
    (e13 : owns ((0 : Dev nD) : Thread nD τ) (st m 13 t) fullShare v13 ⊢ leaves m 0 t 13)
    (e14 : owns ((0 : Dev nD) : Thread nD τ) (st m 14 t) fullShare v14 ⊢ leaves m 0 t 14)
    (e15 : owns ((0 : Dev nD) : Thread nD τ) (st m 15 t) fullShare v15 ⊢ leaves m 0 t 15)
    (hb : ∀ K : PUnit.{1} → sProp 𝕄,
      iprop(owns ((0 : Dev nD) : Thread nD τ) (st m 0 t) fullShare (iblk m 0 0 t) ∗ owns ((0 : Dev nD) : Thread nD τ) (st m 1 t) fullShare (iblk m 0 1 t) ∗ owns ((0 : Dev nD) : Thread nD τ) (st m 2 t) fullShare (iblk m 0 2 t) ∗ owns ((0 : Dev nD) : Thread nD τ) (st m 3 t) fullShare (iblk m 0 3 t) ∗ owns ((0 : Dev nD) : Thread nD τ) (st m 4 t) fullShare (iblk m 0 4 t) ∗ owns ((0 : Dev nD) : Thread nD τ) (st m 5 t) fullShare (iblk m 0 5 t) ∗ owns ((0 : Dev nD) : Thread nD τ) (st m 6 t) fullShare (iblk m 0 6 t) ∗ owns ((0 : Dev nD) : Thread nD τ) (st m 7 t) fullShare (iblk m 0 7 t) ∗ owns ((0 : Dev nD) : Thread nD τ) (st m 8 t) fullShare (iblk m 0 8 t) ∗ owns ((0 : Dev nD) : Thread nD τ) (st m 9 t) fullShare (iblk m 0 9 t) ∗ owns ((0 : Dev nD) : Thread nD τ) (st m 10 t) fullShare (iblk m 0 10 t) ∗ owns ((0 : Dev nD) : Thread nD τ) (st m 11 t) fullShare (iblk m 0 11 t)
        ∗ (∃ d, owns ((0 : Dev nD) : Thread nD τ) (st m 12 t) fullShare d) ∗ (∃ d, owns ((0 : Dev nD) : Thread nD τ) (st m 13 t) fullShare d) ∗ P14 ∗ P15 ∗ ((((0 : Dev nD) : Thread nD τ).loc main_arg11) ↦{fullShare.right} (show Buf (Elt F) (((0 : Dev nD) : Thread nD τ).loc main_arg11) from pf m 0)))
      ⊢ iprop(((owns ((0 : Dev nD) : Thread nD τ) (st m 0 t) fullShare (iblk m 0 0 t) ∗ owns ((0 : Dev nD) : Thread nD τ) (st m 1 t) fullShare (iblk m 0 1 t) ∗ owns ((0 : Dev nD) : Thread nD τ) (st m 2 t) fullShare (iblk m 0 2 t) ∗ owns ((0 : Dev nD) : Thread nD τ) (st m 3 t) fullShare (iblk m 0 3 t) ∗ owns ((0 : Dev nD) : Thread nD τ) (st m 4 t) fullShare (iblk m 0 4 t) ∗ owns ((0 : Dev nD) : Thread nD τ) (st m 5 t) fullShare (iblk m 0 5 t) ∗ owns ((0 : Dev nD) : Thread nD τ) (st m 6 t) fullShare (iblk m 0 6 t) ∗ owns ((0 : Dev nD) : Thread nD τ) (st m 7 t) fullShare (iblk m 0 7 t) ∗ owns ((0 : Dev nD) : Thread nD τ) (st m 8 t) fullShare (iblk m 0 8 t) ∗ owns ((0 : Dev nD) : Thread nD τ) (st m 9 t) fullShare (iblk m 0 9 t) ∗ owns ((0 : Dev nD) : Thread nD τ) (st m 10 t) fullShare (iblk m 0 10 t) ∗ owns ((0 : Dev nD) : Thread nD τ) (st m 11 t) fullShare (iblk m 0 11 t)
          ∗ owns ((0 : Dev nD) : Thread nD τ) (st m 12 t) fullShare v12 ∗ owns ((0 : Dev nD) : Thread nD τ) (st m 13 t) fullShare v13
          ∗ owns ((0 : Dev nD) : Thread nD τ) (st m 14 t) fullShare v14 ∗ owns ((0 : Dev nD) : Thread nD τ) (st m 15 t) fullShare v15 ∗ ((((0 : Dev nD) : Thread nD τ).loc main_arg11) ↦{fullShare.right} (show Buf (Elt F) (((0 : Dev nD) : Thread nD τ).loc main_arg11) from pf m 0))) -∗ K ⟨⟩)
        -∗ wp frame (wpE (defs₀ (F := F)) Variants.none (0 : Dev nD) none) Set.univ (bodyAt m t) K)) :
    bodyPre m 0 t ⊢ wp frame (wpE (defs₀ (F := F)) Variants.none (0 : Dev nD) none) Set.univ (bodyAt m t) (fun _ => bodyPost m 0 t) := by
  unfold bodyPre bodyPost
  simp only [before_0, before_1, before_2, before_3, before_4, before_5, before_6, before_7, before_8, before_9, before_10, before_11, after_0, after_1, after_2, after_3, after_4, after_5, after_6, after_7, after_8, after_9, after_10, after_11]
  rw [show (dats m 0 0).Φ t.succ = (dats m 0 0).Φ t.castSucc from rfl,
    show (dats m 0 0).owesAt () t.succ = (dats m 0 0).owesAt () t.castSucc from rfl,
    show (dats m 0 0).Φ t.castSucc = iprop(Pipeline.ΦA spec0 0 ∗ Pipeline.ΦT pre0 (pf m) 0) from rfl, table_eq]
  iintro ⟨⟨HA, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (hb _) $$ [H0 H1 H2 H3 H4 H5 H6 H7 H8 H9 H10 H11 H12 H13 H14 H15 Ht]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iapply (h14 d14); iexact H14
    isplitl [H15]; · iapply (h15 d15); iexact H15
    iexact Ht
  iintro ⟨H0, H1, H2, H3, H4, H5, H6, H7, H8, H9, H10, H11, H12, H13, H14, H15, Ht⟩
  isplitl [HA Ht]
  · isplitl [HA]; · iexact HA
    iexact Ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply e12; iexact H12
  isplitl [H13]; · iapply e13; iexact H13
  isplitl [H14]; · iapply e14; iexact H14
  iapply e15; iexact H15

/-- A buffer whose contents do not matter. -/
theorem owns_some (t : Fin (C m).N) (w : Fin (C m).W) (v) : owns ((0 : Dev nD) : Thread nD τ) (st m w t) fullShare v ⊢ (iprop(∃ d, owns ((0 : Dev nD) : Thread nD τ) (st m w t) fullShare d) : sProp 𝕄) := by
  iintro H; iexists v; iexact H

set_option maxHeartbeats 4000000 in
/-- The body is right at every point: with or without a live token, the first point or a later one. -/
theorem sound_body (c : Dev nD) (t : Fin (C m).N) :
    bodyPre m c t ⊢ wp frame (wpE (defs₀ (F := F)) Variants.none c none) Set.univ (bodyAt m t) (fun _ => bodyPost m c t) := by
  obtain rfl := one_dev c
  have e12 := leaves_of_stored m 0 t 12 (idle_12 m t)
  have e13 := leaves_of_stored m 0 t 13 (idle_13 m t)
  rw [after_12] at e12
  rw [after_13] at e13
  have hload := load_eq m t
  by_cases h2 : k0_cond2 (pt m t) (lenAt m t) = 1#1
  · have h3 : ¬k0_cond3 (pt m t) (lenAt m t) = 1#1 := fun h => (cond3_iff _ _).mp h h2
    have e14 := leaves_of_stored m 0 t 14 (by rw [idle_14, h2]; exact Bool.and_false _)
    have e15 := leaves_of_stored m 0 t 15 (by rw [idle_15, h2]; exact Bool.and_false _)
    rw [after_14, sumsQ_live m 0 t h2] at e14
    rw [after_15, sumsK_live m 0 t h2] at e15
    rw [resQ_live m 0 t h2] at e12
    rw [resK_live m 0 t h2] at e13
    by_cases h0 : t.val = 0
    · rw [h0] at e14 e15
      exact sound_body_of m t _ _ _ _ _ _ (fun _ => owns_some m t 14 _) (fun _ => owns_some m t 15 _) e12 e13 e14 e15 fun _ =>
        sound_first_live (pt m t) 0 _ (lenAt m t) hload ((cond1_iff t).mpr h0) h2 h3 _ _ _ _ _ _ _ _ _ _ _ _ _ _ _ _ _ _ _ _ _ _ _ _ _ _ _ _ _ _ _ _ (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t)
    · exact sound_body_of m t _ _ _ _ _ _ (fun d => by rw [before_14 m 0 t h0]; exact .rfl) (fun d => by rw [before_15 m 0 t h0]; exact .rfl) e12 e13 e14 e15 fun _ =>
        sound_next_live (pt m t) 0 _ (lenAt m t) hload (fun h => h0 ((cond1_iff t).mp h)) h2 h3 _ _ _ _ _ _ _ _ _ _ _ _ _ _ _ _ _ _ _ _ _ _ _ _ _ _ _ _ _ _ _ _ (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t) (sumsQ m 0 t.val) (sumsK m 0 t.val)
  · have h3 : k0_cond3 (pt m t) (lenAt m t) = 1#1 := (cond3_iff _ _).mpr h2
    rw [resQ_dead m 0 t h2] at e12
    rw [resK_dead m 0 t h2] at e13
    by_cases h0 : t.val = 0
    · have h1 := (cond1_iff t).mpr h0
      have e14 := leaves_of_stored m 0 t 14 (by rw [idle_14, h1]; rfl)
      have e15 := leaves_of_stored m 0 t 15 (by rw [idle_15, h1]; rfl)
      rw [after_14, sumsQ_dead m 0 t h2, h0] at e14
      rw [after_15, sumsK_dead m 0 t h2, h0] at e15
      exact sound_body_of m t _ _ _ _ _ _ (fun _ => owns_some m t 14 _) (fun _ => owns_some m t 15 _) e12 e13 e14 e15 fun _ =>
        sound_first_dead (pt m t) 0 _ (lenAt m t) hload h1 h2 h3 _ _ _ _ _ _ _ _ _ _ _ _ _ _ _ _ _ _ _ _ _ _ _ _ _ _ _ _ _ _ _ _ (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t)
    · have e14 := leaves_of_kept m 0 t 14 (fun d => by rw [before_14 m 0 t h0, after_14, sumsQ_dead m 0 t h2])
      have e15 := leaves_of_kept m 0 t 15 (fun d => by rw [before_15 m 0 t h0, after_15, sumsK_dead m 0 t h2])
      rw [after_14, sumsQ_dead m 0 t h2] at e14
      rw [after_15, sumsK_dead m 0 t h2] at e15
      exact sound_body_of m t _ _ _ _ _ _ (fun d => by rw [before_14 m 0 t h0]; exact .rfl) (fun d => by rw [before_15 m 0 t h0]; exact .rfl) e12 e13 e14 e15 fun _ =>
        sound_next_dead (pt m t) 0 _ (lenAt m t) hload (fun h => h0 ((cond1_iff t).mp h)) h2 h3 _ _ _ _ _ _ _ _ _ _ _ _ _ _ _ _ _ _ _ _ _ _ _ _ _ _ _ _ _ _ _ _ (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t) (sumsQ m 0 t.val) (sumsK m 0 t.val)

/-- The library's body obligation, at every point. -/
theorem body_obligation (c : Dev nD) : BodyObligation (dats (F := F) m 0 c) (defs₀ (F := F)) Variants.none () Set.univ := fun t => by
  rw [bigSep_W0, bigSep_W0]
  exact triple_restated (sound_body m c t) rfl .rfl fun _ => .rfl

/-! ## The run and the frame -/

theorem hostOps1_tail : ∀ ops ∈ ([hostOps1] : List (List (HloOp τ sig (Elt F)))), ∀ op ∈ ops, op.bufs ⊆ Pipeline.tailRefs (τ := τ) sig pre0 spec0 := by
  intro ops hops op hop
  obtain rfl := List.mem_singleton.mp hops
  refine Pipeline.sub_tailRefs pre0 spec0 op (List.forall_iff_forall_mem.mp hostOps1_sub op hop) (fun k => ?_)
  obtain rfl : k = 0 := Subsingleton.elim k 0
  revert op
  refine List.forall_iff_forall_mem.mp ?_
  simp only [hostOps1, List.Forall, StableHlo.nullary_bufs, StableHlo.binary_bufs, Finset.mem_singleton, Finset.mem_insert, not_or]
  repeat' apply And.intro
  all_goals exact StableHlo.devRef_ne_of_ne (by decide)
theorem hostOps1_keep : ∀ ops ∈ ([hostOps1] : List (List (HloOp τ sig (Elt F)))), ∀ op ∈ ops, ∀ w, Proc.devRef .tc (Pipeline.arrRef spec0 w) ∉ op.writes := by
  intro ops hops op hop w
  obtain rfl := List.mem_singleton.mp hops
  revert op
  refine List.forall_iff_forall_mem.mp ?_
  simp only [hostOps1, List.Forall, StableHlo.nullary_writes, StableHlo.binary_writes, Finset.mem_singleton]
  refine ⟨?_, ?_, ?_, ?_⟩
  all_goals exact StableHlo.devRef_ne_of_ne (by revert w; decide)

/-- What a buffer holds at the end of @main: the arrays as the region leaves them, the rest after the operations that
    follow it. -/
abbrev Vend (c : Dev nD) (b : Ref sig .tc) : Buf (Elt F) ((c : Thread nD τ).loc b) :=
  Pipeline.afterTail pcfgs (adm m) (dats m) 0 (V₀ m) [hostOps1] c b

set_option backward.isDefEq.respectTransparency.types false in
set_option maxHeartbeats 4000000 in
/-- Every execution of @main ends, with the arrays at what the proof data give and every semaphore back at zero. -/
theorem run_main_quiescent : θ_run defs (onTc (τ := τ) (main (F := F))) (s₀ m ρ)
    (fun r => Pipeline.FramePost (Pipeline.pin pcfgs (adm m)) (dats m) 0 (Vend m) r ∧ r.2.sem = fun _ => 0) :=
  Pipeline.θ_run_frameP_around_track pcfgs (adm m) (dats m) (0 : Fin 1) launch0 defs₀ Variants.none m ρ main
    (hbody := fun c => (body_obligation m c).loose) (hshare := fun c => (dats m 0 c).share_full fun _ => rfl)
    (howed := fun _ _ => rfl) (V₀ := V₀ m) (opss := [hostOps1]) (hsub := hostOps1_tail)
    (hfresh := fun ops hops op hop => by obtain rfl := List.mem_singleton.mp hops; exact List.forall_iff_forall_mem.mp hostOps1_fresh op hop)
    (hkeep := hostOps1_keep) (hmain := hmain m) (hA := A_eq m)
    (hpf := fun c k => by
      obtain rfl := one_dev c
      obtain rfl : k = 0 := Subsingleton.elim k 0
      exact V_kept m 0 main_arg11 (by decide))
    (hin := fun c => .rfl) (hout := fun c => by
      show iprop(Pipeline.ΦA spec0 c ∗ Pipeline.ΦT pre0 (pf m) c) ⊢ Pipeline.ΦA spec0 c
      iintro ⟨H, -⟩; iexact H)
    (Q' := _) (hQ' := fun _ h => h)

/-- An argument the pipeline does not stage is at the end as it was: no operation before or after the region writes it. -/
theorem Vend_kept (c : Dev nD) (b : Ref sig .tc) (h0 : V m c b = m ((c : Thread nD τ).loc b)) (hw : ∀ w, Pipeline.arrRef spec0 w ≠ b)
    (h : b ∉ ([main_cst_2, main_v14, main_cst_3, main_v15] : List (Ref sig .tc))) : Vend m c b = m ((c : Thread nD τ).loc b) := by
  unfold Vend Pipeline.afterTail
  rw [StableHlo.after_of_forall_not_mem (b := Proc.devRef .tc b) _ _ (List.forall_iff_forall_mem.mp (by
    simp only [hostOps1, List.flatten_cons, List.flatten_nil, List.append_nil, List.Forall, StableHlo.nullary_writes, StableHlo.binary_writes, Finset.mem_singleton]
    repeat' apply And.intro
    all_goals exact StableHlo.devRef_ne_of_ne fun e => h (by rw [e]; decide)))]
  exact (Pipeline.withArrays_of_ne spec0 c (V₀ m c) _ b hw).trans h0

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).1 0).trans (((dats m 0 c).arrAt_in 0 rfl _).trans ((A_eq m c 0).trans (V_kept m c main_arg0 (by decide)))),
      ((h.1 c).1 1).trans (((dats m 0 c).arrAt_in 1 rfl _).trans ((A_eq m c 1).trans (V_kept m c main_arg1 (by decide)))),
      ((h.1 c).1 2).trans (((dats m 0 c).arrAt_in 2 rfl _).trans ((A_eq m c 2).trans (V_kept m c main_arg2 (by decide)))),
      ((h.1 c).1 3).trans (((dats m 0 c).arrAt_in 3 rfl _).trans ((A_eq m c 3).trans (V_kept m c main_arg3 (by decide)))),
      ((h.1 c).1 4).trans (((dats m 0 c).arrAt_in 4 rfl _).trans ((A_eq m c 4).trans (V_kept m c main_arg4 (by decide)))),
      ((h.1 c).1 5).trans (((dats m 0 c).arrAt_in 5 rfl _).trans ((A_eq m c 5).trans (V_kept m c main_arg5 (by decide)))),
      ((h.1 c).1 6).trans (((dats m 0 c).arrAt_in 6 rfl _).trans ((A_eq m c 6).trans (V_kept m c main_arg6 (by decide)))),
      ((h.1 c).1 7).trans (((dats m 0 c).arrAt_in 7 rfl _).trans ((A_eq m c 7).trans (V_kept m c main_arg7 (by decide)))),
      ((h.1 c).2 main_arg8 (Pipeline.mem_restRefs_of (win := spec0) main_arg8 rfl (by decide))).trans (Vend_kept m c main_arg8 (V_kept m c main_arg8 (by decide)) (by decide) (by decide)),
      ((h.1 c).2 main_arg9 (Pipeline.mem_restRefs_of (win := spec0) main_arg9 rfl (by decide))).trans (Vend_kept m c main_arg9 (V_kept m c main_arg9 (by decide)) (by decide) (by decide)),
      ((h.1 c).2 main_arg10 (Pipeline.mem_restRefs_of (win := spec0) main_arg10 rfl (by decide))).trans (Vend_kept m c main_arg10 (V_kept m c main_arg10 (by decide)) (by decide) (by decide)),
      ((h.1 c).2 main_arg11 (Pipeline.mem_restRefs_of (win := spec0) main_arg11 rfl (by decide))).trans (Vend_kept m c main_arg11 (V_kept m c main_arg11 (by decide)) (by decide) (by decide))⟩, h.2⟩) (run_main_quiescent m ρ)

end Cert.Kernel.Run

end
-- ==== Proof.KernelIdealTable.lean ====
/- The prefetched table of `KernelIdeal`: the sequence lengths as launched, the block index every input window
   computes from them, and that every such block lies inside its array — so the region runs on any contents.
   Generic in the float semantics. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.FrameSuffix
public import Idealize.ShloMosaic.Lib.Pipeline.TableIdle
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F]

/-- The table's contents at launch: the sequence lengths. -/
def pf (m : (ℓ : Loc nD τ sig) → Buf (Elt F) ℓ) : pre0.Contents (Elt F) := fun k => m (((0 : Dev nD) : Thread nD τ).loc (pre0.ref k))

/-- The token block a window of the inputs reads at grid point `i`, of the sequence length `n`: the point's own, held
    at the last block with a live token once the sequence is over. -/
def live (i : grid0.Coords) (n : BitVec 32) : BitVec 32 :=
  Scalar.minsi (BitVec.ofNat 32 (i 1).val) (Scalar.maxsi (Scalar.subi (Scalar.divsi (Scalar.addi n 63#32) 64#32) 1#32) 0#32)

theorem toInt_maxsi (a b : BitVec 32) : (Scalar.maxsi a b).toInt = max a.toInt b.toInt := by
  show (if b.slt a then a else b).toInt = _
  by_cases h : b.toInt < a.toInt
  · rw [show b.slt a = true from decide_eq_true h, if_pos rfl, max_eq_left (le_of_lt h)]
  · rw [show b.slt a = false from decide_eq_false h, if_neg Bool.false_ne_true, max_eq_right (not_lt.mp h)]

theorem toInt_minsi (a b : BitVec 32) : (Scalar.minsi a b).toInt = min a.toInt b.toInt := by
  show (if a.slt b then a else b).toInt = _
  by_cases h : a.toInt < b.toInt
  · rw [show a.slt b = true from decide_eq_true h, if_pos rfl, min_eq_left (le_of_lt h)]
  · rw [show a.slt b = false from decide_eq_false h, if_neg Bool.false_ne_true, min_eq_right (not_lt.mp h)]

theorem block_toInt (i : grid0.Coords) : (BitVec.ofNat 32 (i 1).val).toInt = (i 1).val := by
  have hi : (i 1).val < 128 := (i 1).isLt
  rw [BitVec.toInt_ofNat', Int.bmod_eq_of_le] <;> omega

/-- As an integer, it is between 0 and the point's block. -/
theorem live_toInt (i : grid0.Coords) (n : BitVec 32) :
    (live i n).toInt = min ((i 1).val : Int) (max (Scalar.subi (Scalar.divsi (Scalar.addi n 63#32) 64#32) 1#32).toInt 0) := by
  unfold live
  rw [toInt_minsi, toInt_maxsi, block_toInt]
  rfl

theorem live_bounds (i : grid0.Coords) (n : BitVec 32) : 0 ≤ (live i n).toInt ∧ (live i n).toInt ≤ (i 1).val := by
  rw [live_toInt]; omega

theorem live_toNat (i : grid0.Coords) (n : BitVec 32) : ((live i n).toNat : Int) = (live i n).toInt := by
  have h := live_bounds i n
  have hi : (i 1).val < 128 := (i 1).isLt
  rw [BitVec.toInt_eq_toNat_cond] at h ⊢
  have := (live i n).isLt
  split at h <;> rename_i hc <;> simp only [hc, if_true, if_false] <;> omega

/-- It is one of the 128 blocks. -/
theorem live_lt (i : grid0.Coords) (n : BitVec 32) : (live i n).toNat < 128 := by
  have h := live_bounds i n
  have hi : (i 1).val < 128 := (i 1).isLt
  have := live_toNat i n
  omega

/-- At a point whose block has a live token it is the point's block, if the round-up does not wrap. -/
theorem live_eq (i : grid0.Coords) (n : BitVec 32) (hn : n.toInt ≤ 2147483584) (hl : 64 * ((i 1).val : Int) < n.toInt) :
    (live i n).toNat = (i 1).val := by
  have hi : (i 1).val < 128 := (i 1).isLt
  have e := live_toNat i n
  rw [live_toInt] at e
  have h1 : (Scalar.addi n 63#32).toInt = n.toInt + 63 := by
    show (n + 63#32).toInt = _
    rw [BitVec.toInt_add, show (63#32 : BitVec 32).toInt = 63 from rfl, Int.bmod_eq_of_le] <;> omega
  have h2 : (Scalar.divsi (Scalar.addi n 63#32) 64#32).toInt = (n.toInt + 63) / 64 := by
    have hc : ¬IntOp.SDivCorner (Scalar.addi n 63#32) (64#32 : BitVec 32) := by
      unfold IntOp.SDivCorner; simp
    show (IntOp.divsi .scalar (Scalar.addi n 63#32) 64#32).toInt = _
    unfold IntOp.divsi
    rw [if_neg hc, BitVec.toInt_sdiv, h1, show (64#32 : BitVec 32).toInt = 64 from rfl, Int.tdiv_eq_ediv_of_nonneg (by omega), Int.bmod_eq_of_le] <;> omega
  have h3 : (Scalar.subi (Scalar.divsi (Scalar.addi n 63#32) 64#32) 1#32).toInt = (n.toInt + 63) / 64 - 1 := by
    show (Scalar.divsi (Scalar.addi n 63#32) 64#32 - 1#32).toInt = _
    rw [BitVec.toInt_sub, h2, show (1#32 : BitVec 32).toInt = 1 from rfl, Int.bmod_eq_of_le] <;> omega
  rw [h3] at e
  omega

theorem batch_toNat (i : grid0.Coords) : (BitVec.ofNat 32 (i 0).val).toNat = (i 0).val := by
  have hi : (i 0).val < 4 := (i 0).isLt
  rw [BitVec.toNat_ofNat, Nat.mod_eq_of_lt (by omega)]

/-- The table's word a grid point reads: its sequence's length. -/
def len (p : pre0.Contents (Elt F)) (i : grid0.Coords) : BitVec 32 := p.at 0 (Rect.unit (s := S4) (k0_off1 i) S1.size (k0_off1_inb i)) numel1_S1

theorem ix0_0 (p : pre0.Contents (Elt F)) (i : grid0.Coords) : cc0_transform_0 k0_off1_inb numel1_S1 p i = ![(BitVec.ofNat 32 (i 0).val).toNat, (live i (len p i)).toNat, 0, 0] := rfl

theorem inb4 (b l A B : Nat) (hb : b < 4) (hl : l < 128) :
    ∀ a : Fin 4, ((![b, l, 0, 0] : Fin 4 → Nat) a + 1) * (![1, 64, A, B] : Fin 4 → Nat) a ≤ (![4, 8192, A, B] : Fin 4 → Nat) a := by
  intro a; fin_cases a
  · show (b + 1) * 1 ≤ 4; omega
  · show (l + 1) * 64 ≤ 8192; omega
  · show (0 + 1) * A ≤ A; omega
  · show (0 + 1) * B ≤ B; omega

theorem inb3 (b l A : Nat) (hb : b < 4) (hl : l < 128) :
    ∀ a : Fin 3, ((![b, l, 0] : Fin 3 → Nat) a + 1) * (![1, 64, A] : Fin 3 → Nat) a ≤ (![4, 8192, A] : Fin 3 → Nat) a := by
  intro a; fin_cases a
  · show (b + 1) * 1 ≤ 4; omega
  · show (l + 1) * 64 ≤ 8192; omega
  · show (0 + 1) * A ≤ A; omega

theorem batch_lt (i : grid0.Coords) : (BitVec.ofNat 32 (i 0).val).toNat < 4 := by
  rw [batch_toNat]; exact (i 0).isLt

/-- The region's side condition holds at any table: every window's block lies inside its array, and its transfer
    moves whole words. -/
theorem ok (p : pre0.Contents (Elt F)) : ok0 p := by
  unfold ok0
  refine ⟨fun i => ⟨inb4 _ _ 40 128 (batch_lt i) (live_lt i (len p i)), ?_⟩, fun i => ⟨inb3 _ _ 40 (batch_lt i) (live_lt i (len p i)), .inl rfl⟩,
    fun i => ⟨inb4 _ _ 8 128 (batch_lt i) (live_lt i (len p i)), ?_⟩, fun i => ⟨inb3 _ _ 8 (batch_lt i) (live_lt i (len p i)), .inl rfl⟩,
    fun i => ⟨inb4 _ _ 40 128 (batch_lt i) (live_lt i (len p i)), ?_⟩, fun i => ⟨inb3 _ _ 40 (batch_lt i) (live_lt i (len p i)), .inl rfl⟩,
    fun i => ⟨inb4 _ _ 8 128 (batch_lt i) (live_lt i (len p i)), ?_⟩, fun i => ⟨inb3 _ _ 8 (batch_lt i) (live_lt i (len p i)), .inl rfl⟩,
    fun i => ⟨inb3 _ _ 1 (batch_lt i) (live_lt i (len p i)), .inl rfl⟩⟩
  all_goals exact .inr (Affine.block_words_dvd (of_decide_eq_true rfl) (by decide))

/-- The admissible contents the region runs at. -/
def adm (m : (ℓ : Loc nD τ sig) → Buf (Elt F) ℓ) : (p : Fin 1) → (pcfgs (F := F) p).Adm := fun _ => ⟨pf m, ok (pf m)⟩

end Cert.KernelIdeal.Run

end
-- ==== Proof.KernelIdealBody.lean ====
/- What the body of `KernelIdeal` does to its buffers at one grid point, generic in the float semantics: at a point with
   a live token (`live`) both gradient blocks are written and both sums of the norm weights' gradients grow by the block's
   rows; at any other point the gradient blocks are zeroed. The first point starts the two sums at zero. -/
module

public import proofs.«01_k».proof.Proof.KernelIdealTable
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The values written at a live point, of the input blocks

`x0`, `x1`: the incoming q-gradient's codes and scales; `x2`, `x3`: the k-gradient's; `x4` … `x7`: q's and k's own
codes and scales; `x8`, `x9`: the norm weights; `x10`: the positions; `x11`: the rotation's frequencies. -/

section Values

variable (i : grid0.Coords) (n : BitVec 32) (x0 : Vec F S1x64x40x128 .fp8e5m2) (x1 : Vec F S1x64x40 .f32) (x2 : Vec F S1x64x8x128 .fp8e5m2) (x3 : Vec F S1x64x8 .f32) (x4 : Vec F S1x64x40x128 .fp8e4m3) (x5 : Vec F S1x64x40 .f32) (x6 : Vec F S1x64x8x128 .fp8e4m3) (x7 : Vec F S1x64x8 .f32) (x8 : Vec F S1x128 .f32) (x9 : Vec F S1x128 .f32) (x10 : Vec F S1x64x1 .i32) (x11 : Vec F S1x128 .f32)

/-- The rows whose token is below the sequence length `n`. -/
abbrev liveRows : IVec S64x1x1 1 := k0_pay9 (F := F) (BitVec.ofNat 32 (i 1).val) n
/-- The block of q's gradient, -/
def outQ : FVec F S1x64x40x128 .bf16 :=
  k0_pay19 (liveRows (F := F) i n) (k0_pay15 (k0_pay11 x4) (k0_pay12 x5))
    (k0_pay18 (k0_pay7 x10 x11) (k0_pay8 x10 x11) (k0_pay10 x0 x1) (k0_pay11 x4) (k0_pay12 x5) x8)
/-- of k's gradient, -/
def outK : FVec F S1x64x8x128 .bf16 :=
  k0_pay3 (k0_pay27 (liveRows (F := F) i n) (k0_pay20 x6 x7) (k0_pay21 x9) (k0_pay22 (k0_pay7 x10 x11) (k0_pay8 x10 x11) x2 x3) (k0_pay23 x6 x7))
/-- and the two sums after the point, from the sums before it. -/
def sumQ (a : Vec F S8x128 .f32) : FVec F S8x128 .f32 :=
  k0_pay17 (k0_pay7 x10 x11) (k0_pay8 x10 x11) (liveRows (F := F) i n) (k0_pay10 x0 x1) (k0_pay11 x4) (k0_pay12 x5) a
def sumK (a : Vec F S8x128 .f32) : FVec F S8x128 .f32 :=
  k0_pay26 (liveRows (F := F) i n) (k0_pay20 x6 x7) (k0_pay22 (k0_pay7 x10 x11) (k0_pay8 x10 x11) x2 x3) (k0_pay23 x6 x7) a

end Values

theorem zero2 : (![0, 0] : Fin 2 → ℕ) = fun _ => 0 := by funext a; fin_cases a <;> rfl
theorem zero3 : (![0, 0, 0] : Fin 3 → ℕ) = fun _ => 0 := by funext a; fin_cases a <;> rfl
theorem zero4 : (![0, 0, 0, 0] : Fin 4 → ℕ) = fun _ => 0 := by funext a; fin_cases a <;> rfl

/-- A memref's buffer, owned, is the memref owned with what it reads there. -/
theorem owns_read (c : Dev nD) {sp : Space} {sh : Shape} {e : EltTy} (r : Memref sig .tc sp sh e) (f : r.view.ty.Contents (Elt F)) :
    (r.view.loc (c : Thread nD τ) ↦[r.view.set]{fullShare} f) ⊢ (iprop(∃ g, ⌜r.view.read (Elt F) g = r.view.read (Elt F) f⌝ ∗ (r.view.loc (c : Thread nD τ) ↦[r.view.set]{fullShare} g)) : sProp 𝕄) := by
  iintro H; iexists f; isplitr
  · ipureintro; rfl
  iexact H

/-! A load of a whole buffer reads its contents (the six shapes loaded). -/

theorem rd4q {κ : Kind} {sp : Space} {e : EltTy} (v : View sig κ sp S1x64x40x128 e) (f : v.ty.Contents (Elt F)) :
    v.readAt (Elt F) (Rect.unit (s := S1x64x40x128) ![0, 0, 0, 0] ![1, 64, 40, 128] inb_S1x64x40x128_S1x64x40x128_0_0_0_0).toLoadRect f = v.read (Elt F) f := View.readAt_full v f _
theorem rd3q {κ : Kind} {sp : Space} {e : EltTy} (v : View sig κ sp S1x64x40 e) (f : v.ty.Contents (Elt F)) :
    v.readAt (Elt F) (Rect.unit (s := S1x64x40) ![0, 0, 0] ![1, 64, 40] inb_S1x64x40_S1x64x40_0_0_0).toLoadRect f = v.read (Elt F) f := View.readAt_full v f _
theorem rd4k {κ : Kind} {sp : Space} {e : EltTy} (v : View sig κ sp S1x64x8x128 e) (f : v.ty.Contents (Elt F)) :
    v.readAt (Elt F) (Rect.unit (s := S1x64x8x128) ![0, 0, 0, 0] ![1, 64, 8, 128] inb_S1x64x8x128_S1x64x8x128_0_0_0_0).toLoadRect f = v.read (Elt F) f := View.readAt_full v f _
theorem rd3k {κ : Kind} {sp : Space} {e : EltTy} (v : View sig κ sp S1x64x8 e) (f : v.ty.Contents (Elt F)) :
    v.readAt (Elt F) (Rect.unit (s := S1x64x8) ![0, 0, 0] ![1, 64, 8] inb_S1x64x8_S1x64x8_0_0_0).toLoadRect f = v.read (Elt F) f := View.readAt_full v f _
theorem rd2 {κ : Kind} {sp : Space} {e : EltTy} (v : View sig κ sp S1x128 e) (f : v.ty.Contents (Elt F)) :
    v.readAt (Elt F) (Rect.unit (s := S1x128) ![0, 0] ![1, 128] inb_S1x128_S1x128_0_0).toLoadRect f = v.read (Elt F) f := View.readAt_full v f _
theorem rd3p {κ : Kind} {sp : Space} {e : EltTy} (v : View sig κ sp S1x64x1 e) (f : v.ty.Contents (Elt F)) :
    v.readAt (Elt F) (Rect.unit (s := S1x64x1) ![0, 0, 0] ![1, 64, 1] inb_S1x64x1_S1x64x1_0_0_0).toLoadRect f = v.read (Elt F) f := View.readAt_full v f _
theorem rd2s {κ : Kind} {sp : Space} {e : EltTy} (v : View sig κ sp S8x128 e) (f : v.ty.Contents (Elt F)) :
    v.readAt (Elt F) (Rect.unit (s := S8x128) ![0, 0] ![8, 128] inb_S8x128_S8x128_0_0).toLoadRect f = v.read (Elt F) f := View.readAt_full v f _

variable (i : grid0.Coords)
set_option maxHeartbeats 4000000 in
/-- A live point after the first. -/
theorem sound_next_live (c : Dev nD) (f : Buf (Elt F) ((c : Thread nD τ).loc main_arg11)) (n : BitVec 32)
    (hn : ((Memref.whole main_arg11).access (Rect.unit (s := S4) (k0_off1 i) S1.size (k0_off1_inb i))).read (Elt F) f (Shape.Idx.first (numel1_S1.symm ▸ Nat.one_pos)) = n)
    (h1 : ¬k0_cond1 i = 1#1) (h2 : k0_cond2 i n = 1#1) (h3 : ¬k0_cond3 i n = 1#1)
    (arg3 : Memref sig .tc .vmem S1x64x40x128 .fp8e5m2) (harg3 : arg3.IsWhole) (arg4 : Memref sig .tc .vmem S1x64x40 .f32) (harg4 : arg4.IsWhole) (arg5 : Memref sig .tc .vmem S1x64x8x128 .fp8e5m2) (harg5 : arg5.IsWhole) (arg6 : Memref sig .tc .vmem S1x64x8 .f32) (harg6 : arg6.IsWhole) (arg7 : Memref sig .tc .vmem S1x64x40x128 .fp8e4m3) (harg7 : arg7.IsWhole) (arg8 : Memref sig .tc .vmem S1x64x40 .f32) (harg8 : arg8.IsWhole) (arg9 : Memref sig .tc .vmem S1x64x8x128 .fp8e4m3) (harg9 : arg9.IsWhole) (arg10 : Memref sig .tc .vmem S1x64x8 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x64x1 .i32) (harg13 : arg13.IsWhole) (arg14 : Memref sig .tc .vmem S1x128 .f32) (harg14 : arg14.IsWhole) (arg15 : Memref sig .tc .vmem S1x64x40x128 .bf16) (harg15 : arg15.IsWhole) (arg16 : Memref sig .tc .vmem S1x64x8x128 .bf16) (harg16 : arg16.IsWhole) (arg17 : Memref sig .tc .vmem S8x128 .f32) (harg17 : arg17.IsWhole) (arg18 : Memref sig .tc .vmem S8x128 .f32) (harg18 : arg18.IsWhole)
    (x0 : Vec F S1x64x40x128 .fp8e5m2) (x1 : Vec F S1x64x40 .f32) (x2 : Vec F S1x64x8x128 .fp8e5m2) (x3 : Vec F S1x64x8 .f32) (x4 : Vec F S1x64x40x128 .fp8e4m3) (x5 : Vec F S1x64x40 .f32) (x6 : Vec F S1x64x8x128 .fp8e4m3) (x7 : Vec F S1x64x8 .f32) (x8 : Vec F S1x128 .f32) (x9 : Vec F S1x128 .f32) (x10 : Vec F S1x64x1 .i32) (x11 : Vec F S1x128 .f32) (a b : Vec F S8x128 .f32) {K : PUnit.{1} → sProp 𝕄} :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d)
        ∗ owns (c : Thread nD τ) arg17 fullShare a ∗ owns (c : Thread nD τ) arg18 fullShare b ∗ (((c : Thread nD τ).loc main_arg11) ↦{fullShare.right} f))
      ⊢ iprop(((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (outQ i n x0 x1 x4 x5 x8 x10 x11) ∗ owns (c : Thread nD τ) arg16 fullShare (outK i n x2 x3 x6 x7 x9 x10 x11)
            ∗ owns (c : Thread nD τ) arg17 fullShare (sumQ i n x0 x1 x4 x5 x10 x11 a) ∗ owns (c : Thread nD τ) arg18 fullShare (sumK i n x2 x3 x6 x7 x10 x11 b) ∗ (((c : Thread nD τ).loc main_arg11) ↦{fullShare.right} f)) -∗ K ⟨⟩)
        -∗ wp frame (wpE (defs₀ (F := F)) Variants.none c none) Set.univ (cc0_qk_norm_rope_bwd i (Memref.whole main_arg11) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) := by
  simp only [cc0_qk_norm_rope_bwd_eq_skeleton]
  unfold cc0_qk_norm_rope_bwd_skel
  simp only [k0_part1_eq_skeleton, k0_part2_eq_skeleton, k0_part3_eq_skeleton, k0_part4_eq_skeleton]
  rw [dif_neg h1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%f14, %hf14, H14⟩, ⟨%f15, %hf15, H15⟩, Ht⟩ Hk
  subst hf0 hf1 hf2 hf3 hf4 hf5 hf6 hf7 hf8 hf9 hf10 hf11 hf12 hf13 hf14 hf15
  sl_exec
  iapply (wp_load_rect Variants.none (c : Thread nD τ) none Set.univ (m := Memref.whole main_arg11) (r := Rect.unit (s := S4) (k0_off1 i) S1.size (k0_off1_inb i)) (Finset.subset_univ _)) $$ Ht
  iintro Ht
  rw [wp_ret]
  imodintro
  beta_reduce
  rw [hn, dif_pos h2, dif_neg h3]
  sl_exec
  rw [wp_ret]
  imodintro
  iapply Hk
  isplitl [H0]; · iapply (owns_read c _ f0); iexact H0
  isplitl [H1]; · iapply (owns_read c _ f1); iexact H1
  isplitl [H2]; · iapply (owns_read c _ f2); iexact H2
  isplitl [H3]; · iapply (owns_read c _ f3); iexact H3
  isplitl [H4]; · iapply (owns_read c _ f4); iexact H4
  isplitl [H5]; · iapply (owns_read c _ f5); iexact H5
  isplitl [H6]; · iapply (owns_read c _ f6); iexact H6
  isplitl [H7]; · iapply (owns_read c _ f7); iexact H7
  isplitl [H8]; · iapply (owns_read c _ f8); iexact H8
  isplitl [H9]; · iapply (owns_read c _ f9); iexact H9
  isplitl [H10]; · iapply (owns_read c _ f10); iexact H10
  isplitl [H11]; · iapply (owns_read c _ f11); iexact H11
  isplitl [H12]
  · iexists _; isplitr
    swap; · iexact H12
    ipureintro; refine (View.read_writes_full _ _ _ _ _).trans ?_
    unfold outQ liveRows; delta sound_next_live.sl.r sound_next_live.sl.r_1 sound_next_live.sl.r_2 sound_next_live.sl.r_3 sound_next_live.sl.r_4 sound_next_live.sl.r_5 sound_next_live.sl.r_6 sound_next_live.sl.r_7 sound_next_live.sl.r_8 sound_next_live.sl.r_9 sound_next_live.sl.r_10 sound_next_live.sl.r_11 sound_next_live.sl.r_12; simp only [View.readAt_full, rd4q, rd3q, rd4k, rd3k, rd2, rd3p, rd2s]
  isplitl [H13]
  · iexists _; isplitr
    swap; · iexact H13
    ipureintro; refine (View.read_writes_full _ _ _ _ _).trans ?_
    unfold outK liveRows; delta sound_next_live.sl.r sound_next_live.sl.r_1 sound_next_live.sl.r_2 sound_next_live.sl.r_3 sound_next_live.sl.r_4 sound_next_live.sl.r_5 sound_next_live.sl.r_6 sound_next_live.sl.r_7 sound_next_live.sl.r_8 sound_next_live.sl.r_9 sound_next_live.sl.r_10 sound_next_live.sl.r_11 sound_next_live.sl.r_12; simp only [View.readAt_full, rd4q, rd3q, rd4k, rd3k, rd2, rd3p, rd2s]
  isplitl [H14]
  · iexists _; isplitr
    swap; · iexact H14
    ipureintro; refine (View.read_writes_full _ _ _ _ _).trans ?_
    unfold sumQ liveRows; delta sound_next_live.sl.r sound_next_live.sl.r_1 sound_next_live.sl.r_2 sound_next_live.sl.r_3 sound_next_live.sl.r_4 sound_next_live.sl.r_5 sound_next_live.sl.r_6 sound_next_live.sl.r_7 sound_next_live.sl.r_8 sound_next_live.sl.r_9 sound_next_live.sl.r_10 sound_next_live.sl.r_11 sound_next_live.sl.r_12; simp only [View.readAt_full, rd4q, rd3q, rd4k, rd3k, rd2, rd3p, rd2s]
  isplitl [H15]
  · iexists _; isplitr
    swap; · iexact H15
    ipureintro; refine (View.read_writes_full _ _ _ _ _).trans ?_
    unfold sumK liveRows; delta sound_next_live.sl.r sound_next_live.sl.r_1 sound_next_live.sl.r_2 sound_next_live.sl.r_3 sound_next_live.sl.r_4 sound_next_live.sl.r_5 sound_next_live.sl.r_6 sound_next_live.sl.r_7 sound_next_live.sl.r_8 sound_next_live.sl.r_9 sound_next_live.sl.r_10 sound_next_live.sl.r_11 sound_next_live.sl.r_12; simp only [View.readAt_full, rd4q, rd3q, rd4k, rd3k, rd2, rd3p, rd2s]
  iexact Ht

set_option maxHeartbeats 4000000 in
/-- The first point, live. -/
theorem sound_first_live (c : Dev nD) (f : Buf (Elt F) ((c : Thread nD τ).loc main_arg11)) (n : BitVec 32)
    (hn : ((Memref.whole main_arg11).access (Rect.unit (s := S4) (k0_off1 i) S1.size (k0_off1_inb i))).read (Elt F) f (Shape.Idx.first (numel1_S1.symm ▸ Nat.one_pos)) = n)
    (h1 : k0_cond1 i = 1#1) (h2 : k0_cond2 i n = 1#1) (h3 : ¬k0_cond3 i n = 1#1)
    (arg3 : Memref sig .tc .vmem S1x64x40x128 .fp8e5m2) (harg3 : arg3.IsWhole) (arg4 : Memref sig .tc .vmem S1x64x40 .f32) (harg4 : arg4.IsWhole) (arg5 : Memref sig .tc .vmem S1x64x8x128 .fp8e5m2) (harg5 : arg5.IsWhole) (arg6 : Memref sig .tc .vmem S1x64x8 .f32) (harg6 : arg6.IsWhole) (arg7 : Memref sig .tc .vmem S1x64x40x128 .fp8e4m3) (harg7 : arg7.IsWhole) (arg8 : Memref sig .tc .vmem S1x64x40 .f32) (harg8 : arg8.IsWhole) (arg9 : Memref sig .tc .vmem S1x64x8x128 .fp8e4m3) (harg9 : arg9.IsWhole) (arg10 : Memref sig .tc .vmem S1x64x8 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x64x1 .i32) (harg13 : arg13.IsWhole) (arg14 : Memref sig .tc .vmem S1x128 .f32) (harg14 : arg14.IsWhole) (arg15 : Memref sig .tc .vmem S1x64x40x128 .bf16) (harg15 : arg15.IsWhole) (arg16 : Memref sig .tc .vmem S1x64x8x128 .bf16) (harg16 : arg16.IsWhole) (arg17 : Memref sig .tc .vmem S8x128 .f32) (harg17 : arg17.IsWhole) (arg18 : Memref sig .tc .vmem S8x128 .f32) (harg18 : arg18.IsWhole)
    (x0 : Vec F S1x64x40x128 .fp8e5m2) (x1 : Vec F S1x64x40 .f32) (x2 : Vec F S1x64x8x128 .fp8e5m2) (x3 : Vec F S1x64x8 .f32) (x4 : Vec F S1x64x40x128 .fp8e4m3) (x5 : Vec F S1x64x40 .f32) (x6 : Vec F S1x64x8x128 .fp8e4m3) (x7 : Vec F S1x64x8 .f32) (x8 : Vec F S1x128 .f32) (x9 : Vec F S1x128 .f32) (x10 : Vec F S1x64x1 .i32) (x11 : Vec F S1x128 .f32) {K : PUnit.{1} → sProp 𝕄} :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d)
        ∗ (∃ a, owns (c : Thread nD τ) arg17 fullShare a) ∗ (∃ b, owns (c : Thread nD τ) arg18 fullShare b) ∗ (((c : Thread nD τ).loc main_arg11) ↦{fullShare.right} f))
      ⊢ iprop(((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare (outQ i n x0 x1 x4 x5 x8 x10 x11) ∗ owns (c : Thread nD τ) arg16 fullShare (outK i n x2 x3 x6 x7 x9 x10 x11)
            ∗ owns (c : Thread nD τ) arg17 fullShare (sumQ i n x0 x1 x4 x5 x10 x11 (k0_pay1 (F := F))) ∗ owns (c : Thread nD τ) arg18 fullShare (sumK i n x2 x3 x6 x7 x10 x11 (k0_pay2 (F := F))) ∗ (((c : Thread nD τ).loc main_arg11) ↦{fullShare.right} f)) -∗ K ⟨⟩)
        -∗ wp frame (wpE (defs₀ (F := F)) Variants.none c none) Set.univ (cc0_qk_norm_rope_bwd i (Memref.whole main_arg11) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) := by
  simp only [cc0_qk_norm_rope_bwd_eq_skeleton]
  unfold cc0_qk_norm_rope_bwd_skel
  simp only [k0_part1_eq_skeleton, k0_part2_eq_skeleton, k0_part3_eq_skeleton, k0_part4_eq_skeleton]
  rw [dif_pos h1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%a, %f14, %hf14, H14⟩, ⟨%b, %f15, %hf15, H15⟩, Ht⟩ Hk
  subst hf0 hf1 hf2 hf3 hf4 hf5 hf6 hf7 hf8 hf9 hf10 hf11 hf12 hf13 hf14 hf15
  sl_exec
  iapply (wp_load_rect Variants.none (c : Thread nD τ) none Set.univ (m := Memref.whole main_arg11) (r := Rect.unit (s := S4) (k0_off1 i) S1.size (k0_off1_inb i)) (Finset.subset_univ _)) $$ Ht
  iintro Ht
  rw [wp_ret]
  imodintro
  beta_reduce
  rw [hn, dif_pos h2, dif_neg h3]
  sl_exec
  rw [wp_ret]
  imodintro
  iapply Hk
  isplitl [H0]; · iapply (owns_read c _ f0); iexact H0
  isplitl [H1]; · iapply (owns_read c _ f1); iexact H1
  isplitl [H2]; · iapply (owns_read c _ f2); iexact H2
  isplitl [H3]; · iapply (owns_read c _ f3); iexact H3
  isplitl [H4]; · iapply (owns_read c _ f4); iexact H4
  isplitl [H5]; · iapply (owns_read c _ f5); iexact H5
  isplitl [H6]; · iapply (owns_read c _ f6); iexact H6
  isplitl [H7]; · iapply (owns_read c _ f7); iexact H7
  isplitl [H8]; · iapply (owns_read c _ f8); iexact H8
  isplitl [H9]; · iapply (owns_read c _ f9); iexact H9
  isplitl [H10]; · iapply (owns_read c _ f10); iexact H10
  isplitl [H11]; · iapply (owns_read c _ f11); iexact H11
  isplitl [H12]
  · iexists _; isplitr
    swap; · iexact H12
    ipureintro; refine (View.read_writes_full _ _ _ _ _).trans ?_
    unfold outQ liveRows; delta sound_first_live.sl.r sound_first_live.sl.r_1 sound_first_live.sl.r_2 sound_first_live.sl.r_3 sound_first_live.sl.r_4 sound_first_live.sl.r_5 sound_first_live.sl.r_6 sound_first_live.sl.r_7 sound_first_live.sl.r_8 sound_first_live.sl.r_9 sound_first_live.sl.r_10 sound_first_live.sl.r_11 sound_first_live.sl.r_12; simp only [View.readAt_full, rd4q, rd3q, rd4k, rd3k, rd2, rd3p, rd2s]
  isplitl [H13]
  · iexists _; isplitr
    swap; · iexact H13
    ipureintro; refine (View.read_writes_full _ _ _ _ _).trans ?_
    unfold outK liveRows; delta sound_first_live.sl.r sound_first_live.sl.r_1 sound_first_live.sl.r_2 sound_first_live.sl.r_3 sound_first_live.sl.r_4 sound_first_live.sl.r_5 sound_first_live.sl.r_6 sound_first_live.sl.r_7 sound_first_live.sl.r_8 sound_first_live.sl.r_9 sound_first_live.sl.r_10 sound_first_live.sl.r_11 sound_first_live.sl.r_12; simp only [View.readAt_full, rd4q, rd3q, rd4k, rd3k, rd2, rd3p, rd2s]
  isplitl [H14]
  · iexists _; isplitr
    swap; · iexact H14
    ipureintro; refine (View.read_writes_full _ _ _ _ _).trans ?_
    rw [show sound_first_live.sl.v80 c arg17 = k0_pay1 (F := F) from View.readCov_full _ _ _ _ _]
    unfold sumQ liveRows; delta sound_first_live.sl.r sound_first_live.sl.r_1 sound_first_live.sl.r_2 sound_first_live.sl.r_3 sound_first_live.sl.r_4 sound_first_live.sl.r_5 sound_first_live.sl.r_6 sound_first_live.sl.r_7 sound_first_live.sl.r_8 sound_first_live.sl.r_9 sound_first_live.sl.r_10 sound_first_live.sl.r_11 sound_first_live.sl.r_12; simp only [View.readAt_full, rd4q, rd3q, rd4k, rd3k, rd2, rd3p, rd2s]
  isplitl [H15]
  · iexists _; isplitr
    swap; · iexact H15
    ipureintro; refine (View.read_writes_full _ _ _ _ _).trans ?_
    rw [show sound_first_live.sl.v147 c arg18 = k0_pay2 (F := F) from View.readCov_full _ _ _ _ _]
    unfold sumK liveRows; delta sound_first_live.sl.r sound_first_live.sl.r_1 sound_first_live.sl.r_2 sound_first_live.sl.r_3 sound_first_live.sl.r_4 sound_first_live.sl.r_5 sound_first_live.sl.r_6 sound_first_live.sl.r_7 sound_first_live.sl.r_8 sound_first_live.sl.r_9 sound_first_live.sl.r_10 sound_first_live.sl.r_11 sound_first_live.sl.r_12; simp only [View.readAt_full, rd4q, rd3q, rd4k, rd3k, rd2, rd3p, rd2s]
  iexact Ht

set_option maxHeartbeats 4000000 in
/-- A point with no live token, after the first. -/
theorem sound_next_dead (c : Dev nD) (f : Buf (Elt F) ((c : Thread nD τ).loc main_arg11)) (n : BitVec 32)
    (hn : ((Memref.whole main_arg11).access (Rect.unit (s := S4) (k0_off1 i) S1.size (k0_off1_inb i))).read (Elt F) f (Shape.Idx.first (numel1_S1.symm ▸ Nat.one_pos)) = n)
    (h1 : ¬k0_cond1 i = 1#1) (h2 : ¬k0_cond2 i n = 1#1) (h3 : k0_cond3 i n = 1#1)
    (arg3 : Memref sig .tc .vmem S1x64x40x128 .fp8e5m2) (harg3 : arg3.IsWhole) (arg4 : Memref sig .tc .vmem S1x64x40 .f32) (harg4 : arg4.IsWhole) (arg5 : Memref sig .tc .vmem S1x64x8x128 .fp8e5m2) (harg5 : arg5.IsWhole) (arg6 : Memref sig .tc .vmem S1x64x8 .f32) (harg6 : arg6.IsWhole) (arg7 : Memref sig .tc .vmem S1x64x40x128 .fp8e4m3) (harg7 : arg7.IsWhole) (arg8 : Memref sig .tc .vmem S1x64x40 .f32) (harg8 : arg8.IsWhole) (arg9 : Memref sig .tc .vmem S1x64x8x128 .fp8e4m3) (harg9 : arg9.IsWhole) (arg10 : Memref sig .tc .vmem S1x64x8 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x64x1 .i32) (harg13 : arg13.IsWhole) (arg14 : Memref sig .tc .vmem S1x128 .f32) (harg14 : arg14.IsWhole) (arg15 : Memref sig .tc .vmem S1x64x40x128 .bf16) (harg15 : arg15.IsWhole) (arg16 : Memref sig .tc .vmem S1x64x8x128 .bf16) (harg16 : arg16.IsWhole) (arg17 : Memref sig .tc .vmem S8x128 .f32) (harg17 : arg17.IsWhole) (arg18 : Memref sig .tc .vmem S8x128 .f32) (harg18 : arg18.IsWhole)
    (x0 : Vec F S1x64x40x128 .fp8e5m2) (x1 : Vec F S1x64x40 .f32) (x2 : Vec F S1x64x8x128 .fp8e5m2) (x3 : Vec F S1x64x8 .f32) (x4 : Vec F S1x64x40x128 .fp8e4m3) (x5 : Vec F S1x64x40 .f32) (x6 : Vec F S1x64x8x128 .fp8e4m3) (x7 : Vec F S1x64x8 .f32) (x8 : Vec F S1x128 .f32) (x9 : Vec F S1x128 .f32) (x10 : Vec F S1x64x1 .i32) (x11 : Vec F S1x128 .f32) (a b : Vec F S8x128 .f32) {K : PUnit.{1} → sProp 𝕄} :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d)
        ∗ owns (c : Thread nD τ) arg17 fullShare a ∗ owns (c : Thread nD τ) arg18 fullShare b ∗ (((c : Thread nD τ).loc main_arg11) ↦{fullShare.right} f))
      ⊢ iprop(((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare ((k0_pay4 (F := F))) ∗ owns (c : Thread nD τ) arg16 fullShare ((k0_pay5 (F := F)))
            ∗ owns (c : Thread nD τ) arg17 fullShare (a) ∗ owns (c : Thread nD τ) arg18 fullShare (b) ∗ (((c : Thread nD τ).loc main_arg11) ↦{fullShare.right} f)) -∗ K ⟨⟩)
        -∗ wp frame (wpE (defs₀ (F := F)) Variants.none c none) Set.univ (cc0_qk_norm_rope_bwd i (Memref.whole main_arg11) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) := by
  simp only [cc0_qk_norm_rope_bwd_eq_skeleton]
  unfold cc0_qk_norm_rope_bwd_skel
  rw [dif_neg h1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%f14, %hf14, H14⟩, ⟨%f15, %hf15, H15⟩, Ht⟩ Hk
  subst hf0 hf1 hf2 hf3 hf4 hf5 hf6 hf7 hf8 hf9 hf10 hf11 hf12 hf13 hf14 hf15
  sl_exec
  iapply (wp_load_rect Variants.none (c : Thread nD τ) none Set.univ (m := Memref.whole main_arg11) (r := Rect.unit (s := S4) (k0_off1 i) S1.size (k0_off1_inb i)) (Finset.subset_univ _)) $$ Ht
  iintro Ht
  rw [wp_ret]
  imodintro
  beta_reduce
  rw [hn, dif_neg h2, dif_pos h3]
  sl_exec
  rw [wp_ret]
  imodintro
  iapply Hk
  isplitl [H0]; · iapply (owns_read c _ f0); iexact H0
  isplitl [H1]; · iapply (owns_read c _ f1); iexact H1
  isplitl [H2]; · iapply (owns_read c _ f2); iexact H2
  isplitl [H3]; · iapply (owns_read c _ f3); iexact H3
  isplitl [H4]; · iapply (owns_read c _ f4); iexact H4
  isplitl [H5]; · iapply (owns_read c _ f5); iexact H5
  isplitl [H6]; · iapply (owns_read c _ f6); iexact H6
  isplitl [H7]; · iapply (owns_read c _ f7); iexact H7
  isplitl [H8]; · iapply (owns_read c _ f8); iexact H8
  isplitl [H9]; · iapply (owns_read c _ f9); iexact H9
  isplitl [H10]; · iapply (owns_read c _ f10); iexact H10
  isplitl [H11]; · iapply (owns_read c _ f11); iexact H11
  isplitl [H12]
  · iexists _; isplitr
    swap; · iexact H12
    ipureintro; refine (View.read_writes_full _ _ _ _ _).trans ?_
    rfl
  isplitl [H13]
  · iexists _; isplitr
    swap; · iexact H13
    ipureintro; refine (View.read_writes_full _ _ _ _ _).trans ?_
    rfl
  isplitl [H14]
  · iexists _; isplitr
    swap; · iexact H14
    ipureintro; rfl
  isplitl [H15]
  · iexists _; isplitr
    swap; · iexact H15
    ipureintro; rfl
  iexact Ht

set_option maxHeartbeats 4000000 in
/-- The first point, with no live token. -/
theorem sound_first_dead (c : Dev nD) (f : Buf (Elt F) ((c : Thread nD τ).loc main_arg11)) (n : BitVec 32)
    (hn : ((Memref.whole main_arg11).access (Rect.unit (s := S4) (k0_off1 i) S1.size (k0_off1_inb i))).read (Elt F) f (Shape.Idx.first (numel1_S1.symm ▸ Nat.one_pos)) = n)
    (h1 : k0_cond1 i = 1#1) (h2 : ¬k0_cond2 i n = 1#1) (h3 : k0_cond3 i n = 1#1)
    (arg3 : Memref sig .tc .vmem S1x64x40x128 .fp8e5m2) (harg3 : arg3.IsWhole) (arg4 : Memref sig .tc .vmem S1x64x40 .f32) (harg4 : arg4.IsWhole) (arg5 : Memref sig .tc .vmem S1x64x8x128 .fp8e5m2) (harg5 : arg5.IsWhole) (arg6 : Memref sig .tc .vmem S1x64x8 .f32) (harg6 : arg6.IsWhole) (arg7 : Memref sig .tc .vmem S1x64x40x128 .fp8e4m3) (harg7 : arg7.IsWhole) (arg8 : Memref sig .tc .vmem S1x64x40 .f32) (harg8 : arg8.IsWhole) (arg9 : Memref sig .tc .vmem S1x64x8x128 .fp8e4m3) (harg9 : arg9.IsWhole) (arg10 : Memref sig .tc .vmem S1x64x8 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x64x1 .i32) (harg13 : arg13.IsWhole) (arg14 : Memref sig .tc .vmem S1x128 .f32) (harg14 : arg14.IsWhole) (arg15 : Memref sig .tc .vmem S1x64x40x128 .bf16) (harg15 : arg15.IsWhole) (arg16 : Memref sig .tc .vmem S1x64x8x128 .bf16) (harg16 : arg16.IsWhole) (arg17 : Memref sig .tc .vmem S8x128 .f32) (harg17 : arg17.IsWhole) (arg18 : Memref sig .tc .vmem S8x128 .f32) (harg18 : arg18.IsWhole)
    (x0 : Vec F S1x64x40x128 .fp8e5m2) (x1 : Vec F S1x64x40 .f32) (x2 : Vec F S1x64x8x128 .fp8e5m2) (x3 : Vec F S1x64x8 .f32) (x4 : Vec F S1x64x40x128 .fp8e4m3) (x5 : Vec F S1x64x40 .f32) (x6 : Vec F S1x64x8x128 .fp8e4m3) (x7 : Vec F S1x64x8 .f32) (x8 : Vec F S1x128 .f32) (x9 : Vec F S1x128 .f32) (x10 : Vec F S1x64x1 .i32) (x11 : Vec F S1x128 .f32) {K : PUnit.{1} → sProp 𝕄} :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ (∃ d, owns (c : Thread nD τ) arg15 fullShare d) ∗ (∃ d, owns (c : Thread nD τ) arg16 fullShare d)
        ∗ (∃ a, owns (c : Thread nD τ) arg17 fullShare a) ∗ (∃ b, owns (c : Thread nD τ) arg18 fullShare b) ∗ (((c : Thread nD τ).loc main_arg11) ↦{fullShare.right} f))
      ⊢ iprop(((owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare ((k0_pay4 (F := F))) ∗ owns (c : Thread nD τ) arg16 fullShare ((k0_pay5 (F := F)))
            ∗ owns (c : Thread nD τ) arg17 fullShare ((k0_pay1 (F := F))) ∗ owns (c : Thread nD τ) arg18 fullShare ((k0_pay2 (F := F))) ∗ (((c : Thread nD τ).loc main_arg11) ↦{fullShare.right} f)) -∗ K ⟨⟩)
        -∗ wp frame (wpE (defs₀ (F := F)) Variants.none c none) Set.univ (cc0_qk_norm_rope_bwd i (Memref.whole main_arg11) (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K) := by
  simp only [cc0_qk_norm_rope_bwd_eq_skeleton]
  unfold cc0_qk_norm_rope_bwd_skel
  rw [dif_pos h1]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%a, %f14, %hf14, H14⟩, ⟨%b, %f15, %hf15, H15⟩, Ht⟩ Hk
  subst hf0 hf1 hf2 hf3 hf4 hf5 hf6 hf7 hf8 hf9 hf10 hf11 hf12 hf13 hf14 hf15
  sl_exec
  iapply (wp_load_rect Variants.none (c : Thread nD τ) none Set.univ (m := Memref.whole main_arg11) (r := Rect.unit (s := S4) (k0_off1 i) S1.size (k0_off1_inb i)) (Finset.subset_univ _)) $$ Ht
  iintro Ht
  rw [wp_ret]
  imodintro
  beta_reduce
  rw [hn, dif_neg h2, dif_pos h3]
  sl_exec
  rw [wp_ret]
  imodintro
  iapply Hk
  isplitl [H0]; · iapply (owns_read c _ f0); iexact H0
  isplitl [H1]; · iapply (owns_read c _ f1); iexact H1
  isplitl [H2]; · iapply (owns_read c _ f2); iexact H2
  isplitl [H3]; · iapply (owns_read c _ f3); iexact H3
  isplitl [H4]; · iapply (owns_read c _ f4); iexact H4
  isplitl [H5]; · iapply (owns_read c _ f5); iexact H5
  isplitl [H6]; · iapply (owns_read c _ f6); iexact H6
  isplitl [H7]; · iapply (owns_read c _ f7); iexact H7
  isplitl [H8]; · iapply (owns_read c _ f8); iexact H8
  isplitl [H9]; · iapply (owns_read c _ f9); iexact H9
  isplitl [H10]; · iapply (owns_read c _ f10); iexact H10
  isplitl [H11]; · iapply (owns_read c _ f11); iexact H11
  isplitl [H12]
  · iexists _; isplitr
    swap; · iexact H12
    ipureintro; refine (View.read_writes_full _ _ _ _ _).trans ?_
    rfl
  isplitl [H13]
  · iexists _; isplitr
    swap; · iexact H13
    ipureintro; refine (View.read_writes_full _ _ _ _ _).trans ?_
    rfl
  isplitl [H14]
  · iexists _; isplitr
    swap; · iexact H14
    ipureintro; refine (View.read_writes_full _ _ _ _ _).trans ?_
    rfl
  isplitl [H15]
  · iexists _; isplitr
    swap; · iexact H15
    ipureintro; refine (View.read_writes_full _ _ _ _ _).trans ?_
    rfl
  iexact Ht

end Cert.KernelIdeal.Run

end
-- ==== Proof.KernelIdealData.lean ====
/- The proof data of `KernelIdeal`'s one region, generic in the float semantics: what every buffer holds after the body at
   every grid point. An input's buffer holds its block, a gradient's the block written there, and the two sums of the norm
   weights' gradients run through the points (`sumsQ`, `sumsK`), growing at the points with a live token only. -/
module

public import proofs.«01_k».proof.Proof.KernelIdealBody

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Every buffer when the region is entered: after the host operations before it; -/
abbrev V₀ (c : Dev nD) : Valuation τ sig (Elt F) := StableHlo.after hostOps0 (fun b => m (c, b))
/-- the TensorCore's. -/
abbrev V (c : Dev nD) (b : Ref sig .tc) : Buf (Elt F) ((c : Thread nD τ).loc b) := V₀ m c b

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the operations before the region, the region, and the operations after it. -/
theorem hmain : Pipeline.HMainPK (Ix := Unit) (Name := ℕ) (U := UR sig nD τ) (Lvl := ℕ) (pcfgs (F := F)) 0 defs₀ Variants.none m (main (F := F)) (V m)
    (fun _ => Pipeline.chain (([hostOps1] : List (List (HloOp τ sig (Elt F)))).map StableHlo.seq)) :=
  Pipeline.hmainP_around pcfgs 0 defs₀ Variants.none m main [hostOps0] [hostOps1] hostOps0_sub hostOps0_fresh main_chain

/-- A buffer that no operation before the region writes, such as an argument, is as it was. -/
theorem V_kept (c : Dev nD) (b : Ref sig .tc) (h : b ∉ ([main_v0, main_cst, main_v1, main_v2, main_cst_0, main_v3, main_v4, main_v5, main_cst_1, main_v6, main_v7,
    main_v8, main_v9, main_v10, main_v11, main_v12] : List (Ref sig .tc))) : V m c b = m ((c : Thread nD τ).loc b) :=
  StableHlo.after_of_forall_not_mem (b := Proc.devRef .tc b) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne fun e => h (by rw [e]; decide)))

/-! ## The grid's points -/

/-- The region's pipeline at the table's contents. -/
abbrev C : Cfg sig Λ₀ := Pipeline.pin (pcfgs (F := F)) (adm m) 0
/-- The coordinates of point `t`: its sequence and its block of 64 tokens. -/
abbrev pt (t : Fin (C m).N) : grid0.Coords := grid0.coords t
/-- The length of point `t`'s sequence. -/
abbrev lenAt (t : Fin (C m).N) : BitVec 32 := len (pf m) (pt m t)

/-- The first point is the one that starts the sums. -/
theorem cond1_iff (t : Fin grid0.N) : k0_cond1 (grid0.coords t) = 1#1 ↔ t.val = 0 :=
  (by decide +kernel : ∀ t : Fin grid0.N, k0_cond1 (grid0.coords t) = 1#1 ↔ t.val = 0) t

theorem ne_of_ofBool (b : Bool) : Scalar.cmpi .ne (Scalar.extui (BitVec.ofBool b) : BitVec 32) 0#32 = BitVec.ofBool b := by
  cases b <;> rfl

/-- A point has a live token if its first one is below the sequence's length, and no live token otherwise. -/
theorem cond2_iff (i : grid0.Coords) (n : BitVec 32) : k0_cond2 i n = 1#1 ↔ (Scalar.muli (BitVec.ofNat 32 (i 1).val) 64#32).slt n = true := by
  show Scalar.cmpi .ne (Scalar.extui (BitVec.ofBool ((Scalar.muli (BitVec.ofNat 32 (i 1).val) 64#32).slt n))) 0#32 = 1#1 ↔ _
  rw [ne_of_ofBool]
  cases (Scalar.muli (BitVec.ofNat 32 (i 1).val) 64#32).slt n <;> decide
theorem cond3_iff (i : grid0.Coords) (n : BitVec 32) : k0_cond3 i n = 1#1 ↔ ¬k0_cond2 i n = 1#1 := by
  rw [cond2_iff]
  show Scalar.cmpi .ne (Scalar.extui (BitVec.ofBool (n.sle (Scalar.muli (BitVec.ofNat 32 (i 1).val) 64#32)))) 0#32 = 1#1 ↔ _
  rw [ne_of_ofBool]
  unfold BitVec.sle BitVec.slt
  by_cases h : (Scalar.muli (BitVec.ofNat 32 (i 1).val) 64#32).toInt < n.toInt
  · rw [decide_eq_false (not_le.mpr h), decide_eq_true h]; decide
  · rw [decide_eq_true (not_lt.mp h), decide_eq_false h]; decide

/-- The table's word the schedule reads at a point is the one its body loads. -/
theorem atD_eq (p : pre0.Contents (Elt F)) (i : grid0.Coords) : p.atD 0 (k0_off1 i) = len p i := by
  unfold Pipeline.Prefetch.Contents.atD len
  split
  · refine congrArg (p 0) ?_
    funext a
    exact Fin.ext (by fin_cases a; rfl)
  · rename_i h
    exact absurd (fun a => by fin_cases a; exact k0_off1_inb i 0) h

/-! ## The blocks and the sums -/

/-- Window `w`'s block at point `t`, read off its array as the region finds it. -/
def iblk (c : Dev nD) (w : Fin (C m).W) (t : Fin (C m).N) : (((C m).win w).xblock ((C m).grid.coords t)).Idx → Elt F ((C m).win w).elt :=
  (((C m).win w).blk t).view.read (Elt F) (V m c (Pipeline.arrRef spec0 w))

/-- The blocks of the two gradients the body writes at point `t`, -/
def resQ (c : Dev nD) (t : Fin (C m).N) : Vec F S1x64x40x128 .bf16 :=
  if k0_cond2 (pt m t) (lenAt m t) = 1#1 then outQ (pt m t) (lenAt m t) (iblk m c 0 t) (iblk m c 1 t) (iblk m c 4 t) (iblk m c 5 t) (iblk m c 8 t) (iblk m c 10 t) (iblk m c 11 t) else k0_pay4
def resK (c : Dev nD) (t : Fin (C m).N) : Vec F S1x64x8x128 .bf16 :=
  if k0_cond2 (pt m t) (lenAt m t) = 1#1 then outK (pt m t) (lenAt m t) (iblk m c 2 t) (iblk m c 3 t) (iblk m c 6 t) (iblk m c 7 t) (iblk m c 9 t) (iblk m c 10 t) (iblk m c 11 t) else k0_pay5
/-- and the two sums over the points before point `n`. -/
def sumsQ (c : Dev nD) : ℕ → Vec F S8x128 .f32
  | 0 => k0_pay1
  | n + 1 => if h : n < (C m).N then
      let t : Fin (C m).N := ⟨n, h⟩
      if k0_cond2 (pt m t) (lenAt m t) = 1#1 then sumQ (pt m t) (lenAt m t) (iblk m c 0 t) (iblk m c 1 t) (iblk m c 4 t) (iblk m c 5 t) (iblk m c 10 t) (iblk m c 11 t) (sumsQ c n) else sumsQ c n
    else sumsQ c n
def sumsK (c : Dev nD) : ℕ → Vec F S8x128 .f32
  | 0 => k0_pay2
  | n + 1 => if h : n < (C m).N then
      let t : Fin (C m).N := ⟨n, h⟩
      if k0_cond2 (pt m t) (lenAt m t) = 1#1 then sumK (pt m t) (lenAt m t) (iblk m c 2 t) (iblk m c 3 t) (iblk m c 6 t) (iblk m c 7 t) (iblk m c 10 t) (iblk m c 11 t) (sumsK c n) else sumsK c n
    else sumsK c n

section Steps
variable (c : Dev nD) (t : Fin (C m).N)
theorem resQ_live (h : k0_cond2 (pt m t) (lenAt m t) = 1#1) : resQ m c t = outQ (pt m t) (lenAt m t) (iblk m c 0 t) (iblk m c 1 t) (iblk m c 4 t) (iblk m c 5 t) (iblk m c 8 t) (iblk m c 10 t) (iblk m c 11 t) := if_pos h
theorem resQ_dead (h : ¬k0_cond2 (pt m t) (lenAt m t) = 1#1) : resQ m c t = k0_pay4 := if_neg h
theorem resK_live (h : k0_cond2 (pt m t) (lenAt m t) = 1#1) : resK m c t = outK (pt m t) (lenAt m t) (iblk m c 2 t) (iblk m c 3 t) (iblk m c 6 t) (iblk m c 7 t) (iblk m c 9 t) (iblk m c 10 t) (iblk m c 11 t) := if_pos h
theorem resK_dead (h : ¬k0_cond2 (pt m t) (lenAt m t) = 1#1) : resK m c t = k0_pay5 := if_neg h
theorem sumsQ_live (h : k0_cond2 (pt m t) (lenAt m t) = 1#1) : sumsQ m c (t.val + 1) = sumQ (pt m t) (lenAt m t) (iblk m c 0 t) (iblk m c 1 t) (iblk m c 4 t) (iblk m c 5 t) (iblk m c 10 t) (iblk m c 11 t) (sumsQ m c t.val) := by
  rw [sumsQ, dif_pos t.isLt]; exact if_pos h
theorem sumsQ_dead (h : ¬k0_cond2 (pt m t) (lenAt m t) = 1#1) : sumsQ m c (t.val + 1) = sumsQ m c t.val := by
  rw [sumsQ, dif_pos t.isLt]; exact if_neg h
theorem sumsK_live (h : k0_cond2 (pt m t) (lenAt m t) = 1#1) : sumsK m c (t.val + 1) = sumK (pt m t) (lenAt m t) (iblk m c 2 t) (iblk m c 3 t) (iblk m c 6 t) (iblk m c 7 t) (iblk m c 10 t) (iblk m c 11 t) (sumsK m c t.val) := by
  rw [sumsK, dif_pos t.isLt]; exact if_pos h
theorem sumsK_dead (h : ¬k0_cond2 (pt m t) (lenAt m t) = 1#1) : sumsK m c (t.val + 1) = sumsK m c t.val := by
  rw [sumsK, dif_pos t.isLt]; exact if_neg h
end Steps

/-- The proof data on core `c`: the arrays as the region finds them; the buffers after the body at each point; the
    invariant the class's, with the table at the share the body loads it through; nothing owed. -/
def dats (_ : Fin 1) (c : Dev nD) : Dat τ (Elt F) Unit ℕ (UR sig nD τ) ℕ (C m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => resQ m c t
    | ⟨13, _⟩ => resK m c t
    | ⟨14, _⟩ => sumsQ m c (t.val + 1)
    | ⟨15, _⟩ => sumsK m c (t.val + 1)
    | ⟨_ + 16, h⟩ => absurd h (Nat.not_lt.2 (Nat.le_add_left _ _))
  Φ _ := iprop(Pipeline.ΦA spec0 c ∗ Pipeline.ΦT pre0 (pf m) c)
  q _ := fullShare
  owed _ := 0

theorem A_eq (c : Dev nD) (w : Fin (C m).W) : (dats m 0 c).A w = V m c (Pipeline.arrRef spec0 w) := by dsimp only [dats]
theorem after_0 (c : Dev nD) (t : Fin (C m).N) : (dats m 0 c).after 0 t = iblk m c 0 t := rfl
theorem after_1 (c : Dev nD) (t : Fin (C m).N) : (dats m 0 c).after 1 t = iblk m c 1 t := rfl
theorem after_2 (c : Dev nD) (t : Fin (C m).N) : (dats m 0 c).after 2 t = iblk m c 2 t := rfl
theorem after_3 (c : Dev nD) (t : Fin (C m).N) : (dats m 0 c).after 3 t = iblk m c 3 t := rfl
theorem after_4 (c : Dev nD) (t : Fin (C m).N) : (dats m 0 c).after 4 t = iblk m c 4 t := rfl
theorem after_5 (c : Dev nD) (t : Fin (C m).N) : (dats m 0 c).after 5 t = iblk m c 5 t := rfl
theorem after_6 (c : Dev nD) (t : Fin (C m).N) : (dats m 0 c).after 6 t = iblk m c 6 t := rfl
theorem after_7 (c : Dev nD) (t : Fin (C m).N) : (dats m 0 c).after 7 t = iblk m c 7 t := rfl
theorem after_8 (c : Dev nD) (t : Fin (C m).N) : (dats m 0 c).after 8 t = iblk m c 8 t := rfl
theorem after_9 (c : Dev nD) (t : Fin (C m).N) : (dats m 0 c).after 9 t = iblk m c 9 t := rfl
theorem after_10 (c : Dev nD) (t : Fin (C m).N) : (dats m 0 c).after 10 t = iblk m c 10 t := rfl
theorem after_11 (c : Dev nD) (t : Fin (C m).N) : (dats m 0 c).after 11 t = iblk m c 11 t := rfl
theorem after_12 (c : Dev nD) (t : Fin (C m).N) : (dats m 0 c).after 12 t = resQ m c t := rfl
theorem after_13 (c : Dev nD) (t : Fin (C m).N) : (dats m 0 c).after 13 t = resK m c t := rfl
theorem after_14 (c : Dev nD) (t : Fin (C m).N) : (dats m 0 c).after 14 t = sumsQ m c (t.val + 1) := rfl
theorem after_15 (c : Dev nD) (t : Fin (C m).N) : (dats m 0 c).after 15 t = sumsK m c (t.val + 1) := rfl

/-! ## What the body finds -/

/-- An input's buffer holds its block at every point, whether the point fetches it or a point before did. -/
theorem before_in (c : Dev nD) (w : Fin (C m).W) (hw : ((C m).win w).isOut = false) (hlive : ∀ i, (C m).idle w i = false)
    (hclip : ∀ t t' : Fin (C m).N, ((C m).win w).index t = ((C m).win w).index t' → ((C m).win w).clip ((C m).grid.coords t) = ((C m).win w).clip ((C m).grid.coords t'))
    (hafter : ∀ t, ((C m).win w).cut ((C m).grid.coords t) ((dats m 0 c).after w t) = iblk m c w t) (t : Fin (C m).N) (d) :
    (dats m 0 c).before w t d = (dats m 0 c).fetched w t d :=
  (dats m 0 c).before_in_eq_fetched w hw hlive hclip (fun t => by rw [hafter]; unfold Dat.blockOf iblk; rw [A_eq]) t d

theorem before_0 (c : Dev nD) (t : Fin (C m).N) (d) : (dats m 0 c).before 0 t d = iblk m c 0 t := (before_in m c 0 rfl (fun _ => rfl) (fun _ _ _ => rfl) (fun _ => rfl) t d).trans rfl
theorem before_1 (c : Dev nD) (t : Fin (C m).N) (d) : (dats m 0 c).before 1 t d = iblk m c 1 t := (before_in m c 1 rfl (fun _ => rfl) (fun _ _ _ => rfl) (fun _ => rfl) t d).trans rfl
theorem before_2 (c : Dev nD) (t : Fin (C m).N) (d) : (dats m 0 c).before 2 t d = iblk m c 2 t := (before_in m c 2 rfl (fun _ => rfl) (fun _ _ _ => rfl) (fun _ => rfl) t d).trans rfl
theorem before_3 (c : Dev nD) (t : Fin (C m).N) (d) : (dats m 0 c).before 3 t d = iblk m c 3 t := (before_in m c 3 rfl (fun _ => rfl) (fun _ _ _ => rfl) (fun _ => rfl) t d).trans rfl
theorem before_4 (c : Dev nD) (t : Fin (C m).N) (d) : (dats m 0 c).before 4 t d = iblk m c 4 t := (before_in m c 4 rfl (fun _ => rfl) (fun _ _ _ => rfl) (fun _ => rfl) t d).trans rfl
theorem before_5 (c : Dev nD) (t : Fin (C m).N) (d) : (dats m 0 c).before 5 t d = iblk m c 5 t := (before_in m c 5 rfl (fun _ => rfl) (fun _ _ _ => rfl) (fun _ => rfl) t d).trans rfl
theorem before_6 (c : Dev nD) (t : Fin (C m).N) (d) : (dats m 0 c).before 6 t d = iblk m c 6 t := (before_in m c 6 rfl (fun _ => rfl) (fun _ _ _ => rfl) (fun _ => rfl) t d).trans rfl
theorem before_7 (c : Dev nD) (t : Fin (C m).N) (d) : (dats m 0 c).before 7 t d = iblk m c 7 t := (before_in m c 7 rfl (fun _ => rfl) (fun _ _ _ => rfl) (fun _ => rfl) t d).trans rfl
theorem before_8 (c : Dev nD) (t : Fin (C m).N) (d) : (dats m 0 c).before 8 t d = iblk m c 8 t := (before_in m c 8 rfl (fun _ => rfl) (fun _ _ _ => rfl) (fun _ => rfl) t d).trans rfl
theorem before_9 (c : Dev nD) (t : Fin (C m).N) (d) : (dats m 0 c).before 9 t d = iblk m c 9 t := (before_in m c 9 rfl (fun _ => rfl) (fun _ _ _ => rfl) (fun _ => rfl) t d).trans rfl
theorem before_10 (c : Dev nD) (t : Fin (C m).N) (d) : (dats m 0 c).before 10 t d = iblk m c 10 t := (before_in m c 10 rfl (fun _ => rfl) (fun _ _ _ => rfl) (fun _ => rfl) t d).trans rfl
theorem before_11 (c : Dev nD) (t : Fin (C m).N) (d) : (dats m 0 c).before 11 t d = iblk m c 11 t := (before_in m c 11 rfl (fun _ => rfl) (fun _ _ _ => rfl) (fun _ => rfl) t d).trans rfl

/-- The gradients' blocks are written at every point; -/
theorem idle_12 (t : Fin (C m).N) : (C m).idle 12 ((C m).grid.coords t) = false := by
  show (!(k0_cond2 (pt m t) ((pf m).atD 0 (k0_off1 (pt m t))) == 1#1) && !(k0_cond3 (pt m t) ((pf m).atD 0 (k0_off1 (pt m t))) == 1#1)) = false
  rw [atD_eq]
  by_cases h : k0_cond2 (pt m t) (lenAt m t) = 1#1
  · rw [show len (pf m) (pt m t) = lenAt m t from rfl, h]; rfl
  · rw [show len (pf m) (pt m t) = lenAt m t from rfl, (cond3_iff _ _).mpr h]; exact Bool.and_false _
theorem idle_13 (t : Fin (C m).N) : (C m).idle 13 ((C m).grid.coords t) = false := idle_12 m t
/-- the sums are left alone at a point after the first with no live token. -/
theorem idle_14 (t : Fin (C m).N) : (C m).idle 14 ((C m).grid.coords t) = (!(k0_cond1 (pt m t) == 1#1) && !(k0_cond2 (pt m t) (lenAt m t) == 1#1)) := by
  show (!(k0_cond1 (pt m t) == 1#1) && !(k0_cond2 (pt m t) ((pf m).atD 0 (k0_off1 (pt m t))) == 1#1)) = _
  rw [atD_eq]
theorem idle_15 (t : Fin (C m).N) : (C m).idle 15 ((C m).grid.coords t) = (!(k0_cond1 (pt m t) == 1#1) && !(k0_cond2 (pt m t) (lenAt m t) == 1#1)) := idle_14 m t

/-- The sums are written back after the last point only. -/
theorem flush_14 (t : Fin (C m).N) : ((C m).win 14).flush t = true ↔ t.val % 512 = 511 :=
  Window.flush_const _ rfl (fun _ _ => rfl) N_0 rfl t
theorem flush_15 (t : Fin (C m).N) : ((C m).win 15).flush t = true ↔ t.val % 512 = 511 :=
  Window.flush_const _ rfl (fun _ _ => rfl) N_0 rfl t

theorem idle_first (t : Fin (C m).N) (h : t.val = 0) : (!(k0_cond1 (pt m t) == 1#1) && !(k0_cond2 (pt m t) (lenAt m t) == 1#1)) = false := by
  rw [(cond1_iff t).mpr h]; rfl

theorem fresh_14 (n : ℕ) (h : n < (C m).N) : (C m).fresh 14 n = decide (n = 0) := by
  have hN : (C m).N = 512 := N_0
  have := (C m).fresh_tab 14 (fun n => decide (n = 0) || decide (n = 512)) rfl (fun t => by
    have ht : t.val < 512 := hN ▸ t.isLt
    by_cases hl : t.val = 511
    · rw [(flush_14 m t).mpr (by omega), hl]; rfl
    · rw [show ((C m).win 14).flush t = false from Bool.eq_false_iff.mpr fun e => hl (by have := (flush_14 m t).mp e; omega)]
      by_cases h0 : t.val = 0
      · rw [idle_14, idle_first m t h0, h0]; rfl
      · simp only [h0, show ¬t.val + 1 = 512 by omega, show ¬t.val = 512 by omega, Nat.succ_ne_zero]; simp) n (Nat.le_of_lt h)
  rw [this, decide_eq_false (show ¬n = 512 by omega), Bool.or_false]

/-- After the first point the body finds the sum over the points before. -/
theorem before_14 (c : Dev nD) (t : Fin (C m).N) (h : t.val ≠ 0) (d) : (dats m 0 c).before 14 t d = sumsQ m c t.val := by
  have hf := fresh_14 m t.val t.isLt
  rw [decide_eq_false h] at hf
  rw [(dats m 0 c).before_out_traj 14 rfl (fun _ _ => rfl) (fun t h0 hi _ => by
    rw [after_14, after_14]
    rw [idle_14] at hi
    rw [sumsQ_dead m c t (fun e => by rw [e] at hi; revert hi; cases (!(k0_cond1 (pt m t) == 1#1)) <;> decide)]
    exact congrArg (sumsQ m c) (show t.val = t.val - 1 + 1 by omega)) t.val t rfl d, hf, if_neg Bool.false_ne_true, after_14]
  exact congrArg (sumsQ m c) (show t.val - 1 + 1 = t.val by omega)

theorem fresh_15 (n : ℕ) (h : n < (C m).N) : (C m).fresh 15 n = decide (n = 0) := by
  have hN : (C m).N = 512 := N_0
  have := (C m).fresh_tab 15 (fun n => decide (n = 0) || decide (n = 512)) rfl (fun t => by
    have ht : t.val < 512 := hN ▸ t.isLt
    by_cases hl : t.val = 511
    · rw [(flush_15 m t).mpr (by omega), hl]; rfl
    · rw [show ((C m).win 15).flush t = false from Bool.eq_false_iff.mpr fun e => hl (by have := (flush_15 m t).mp e; omega)]
      by_cases h0 : t.val = 0
      · rw [idle_15, idle_first m t h0, h0]; rfl
      · simp only [h0, show ¬t.val + 1 = 512 by omega, show ¬t.val = 512 by omega, Nat.succ_ne_zero]; simp) n (Nat.le_of_lt h)
  rw [this, decide_eq_false (show ¬n = 512 by omega), Bool.or_false]

/-- After the first point the body finds the sum over the points before. -/
theorem before_15 (c : Dev nD) (t : Fin (C m).N) (h : t.val ≠ 0) (d) : (dats m 0 c).before 15 t d = sumsK m c t.val := by
  have hf := fresh_15 m t.val t.isLt
  rw [decide_eq_false h] at hf
  rw [(dats m 0 c).before_out_traj 15 rfl (fun _ _ => rfl) (fun t h0 hi _ => by
    rw [after_15, after_15]
    rw [idle_15] at hi
    rw [sumsK_dead m c t (fun e => by rw [e] at hi; revert hi; cases (!(k0_cond1 (pt m t) == 1#1)) <;> decide)]
    exact congrArg (sumsK m c) (show t.val = t.val - 1 + 1 by omega)) t.val t rfl d, hf, if_neg Bool.false_ne_true, after_15]
  exact congrArg (sumsK m c) (show t.val - 1 + 1 = t.val by omega)

end Cert.KernelIdeal.Run

end
-- ==== Proof.KernelIdealFrame.lean ====
/- The run of `KernelIdeal`, generic in the float semantics: the body at every grid point, the region's launch, and the
   frame — every execution ends, no argument changes, every semaphore is back at zero. -/
module

public import proofs.«01_k».proof.Proof.KernelIdealData

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point -/

/-- The memref window `w` is staged in at point `t`. -/
abbrev st (w : Fin (C m).W) (t : Fin (C m).N) := ((C m).win w).stage ((C m).slots t w)

/-- What the body leaves window `w`'s buffer at, as the pipeline asks it. -/
def leaves (c : Dev nD) (t : Fin (C m).N) (w : Fin (C m).W) : sProp 𝕄 :=
  match (C m).idle w ((C m).grid.coords t) with
  | true =>
    match ((C m).win w).flush t with
    | false => iprop(∃ d, owns (c : Thread nD τ) (st m w t) fullShare ((dats m 0 c).before w t d))
    | true => owns (c : Thread nD τ) (st m w t) fullShare ((dats m 0 c).after w t)
  | false => owns (c : Thread nD τ) (st m w t) fullShare ((dats m 0 c).after w t)

theorem leaves_of_stored (c : Dev nD) (t : Fin (C m).N) (w : Fin (C m).W) (h : (C m).idle w ((C m).grid.coords t) = false) :
    owns (c : Thread nD τ) (st m w t) fullShare ((dats m 0 c).after w t) ⊢ leaves m c t w := by
  unfold leaves; rw [h]
/-- A buffer the body leaves as it found it, at what the point before left. -/
theorem leaves_of_kept (c : Dev nD) (t : Fin (C m).N) (w : Fin (C m).W) (h : ∀ d, (dats m 0 c).before w t d = (dats m 0 c).after w t) :
    owns (c : Thread nD τ) (st m w t) fullShare ((dats m 0 c).after w t) ⊢ leaves m c t w := by
  unfold leaves
  cases (C m).idle w ((C m).grid.coords t)
  · exact .rfl
  · cases ((C m).win w).flush t
    · show owns (c : Thread nD τ) (st m w t) fullShare ((dats m 0 c).after w t) ⊢ iprop(∃ d, owns (c : Thread nD τ) (st m w t) fullShare ((dats m 0 c).before w t d))
      iintro H; iexists (dats m 0 c).after w t
      rw [h]; iexact H
    · exact .rfl

/-- The table, as the body holds it. -/
theorem table_eq (c : Dev nD) (v : pre0.Contents (Elt F)) :
    (Pipeline.ΦT pre0 v c : sProp 𝕄) = iprop(((c : Thread nD τ).loc main_arg11) ↦{fullShare.right} (show Buf (Elt F) ((c : Thread nD τ).loc main_arg11) from v 0)) := by
  unfold Pipeline.ΦT Pipeline.prefHeld
  rw [show (Finset.univ : Finset (Fin 1)) = {0} from by decide, bigSep_singleton]
  rfl

/-- The word the body loads from it is the point's sequence length. -/
theorem load_eq (t : Fin (C m).N) : ((Memref.whole main_arg11).access (Rect.unit (s := S4) (k0_off1 (pt m t)) S1.size (k0_off1_inb (pt m t)))).read (Elt F)
    (show Buf (Elt F) (((0 : Dev nD) : Thread nD τ).loc main_arg11) from pf m 0) (Shape.Idx.first (numel1_S1.symm ▸ Nat.one_pos)) = lenAt m t := rfl

/-- The body as the pipeline calls it at point `t`. -/
abbrev bodyAt (t : Fin (C m).N) : Prog (TpuEff nD τ sig (Elt F) Λ₀ .tc) PUnit := defs₀ (F := F) .tc (C m).body ((C m).bodyArgs t ((C m).slots t))

/-- What the body is given at point `t`, -/
def bodyPre (c : Dev nD) (t : Fin (C m).N) : sProp 𝕄 :=
  iprop((dats m 0 c).Φ t.castSucc ∗ (dats m 0 c).owesAt () t.castSucc
    ∗ (∃ d, owns (c : Thread nD τ) (st m 0 t) fullShare ((dats m 0 c).before 0 t d))
    ∗ (∃ d, owns (c : Thread nD τ) (st m 1 t) fullShare ((dats m 0 c).before 1 t d))
    ∗ (∃ d, owns (c : Thread nD τ) (st m 2 t) fullShare ((dats m 0 c).before 2 t d))
    ∗ (∃ d, owns (c : Thread nD τ) (st m 3 t) fullShare ((dats m 0 c).before 3 t d))
    ∗ (∃ d, owns (c : Thread nD τ) (st m 4 t) fullShare ((dats m 0 c).before 4 t d))
    ∗ (∃ d, owns (c : Thread nD τ) (st m 5 t) fullShare ((dats m 0 c).before 5 t d))
    ∗ (∃ d, owns (c : Thread nD τ) (st m 6 t) fullShare ((dats m 0 c).before 6 t d))
    ∗ (∃ d, owns (c : Thread nD τ) (st m 7 t) fullShare ((dats m 0 c).before 7 t d))
    ∗ (∃ d, owns (c : Thread nD τ) (st m 8 t) fullShare ((dats m 0 c).before 8 t d))
    ∗ (∃ d, owns (c : Thread nD τ) (st m 9 t) fullShare ((dats m 0 c).before 9 t d))
    ∗ (∃ d, owns (c : Thread nD τ) (st m 10 t) fullShare ((dats m 0 c).before 10 t d))
    ∗ (∃ d, owns (c : Thread nD τ) (st m 11 t) fullShare ((dats m 0 c).before 11 t d))
    ∗ (∃ d, owns (c : Thread nD τ) (st m 12 t) fullShare ((dats m 0 c).before 12 t d))
    ∗ (∃ d, owns (c : Thread nD τ) (st m 13 t) fullShare ((dats m 0 c).before 13 t d))
    ∗ (∃ d, owns (c : Thread nD τ) (st m 14 t) fullShare ((dats m 0 c).before 14 t d))
    ∗ (∃ d, owns (c : Thread nD τ) (st m 15 t) fullShare ((dats m 0 c).before 15 t d)))
/-- and what it returns. -/
def bodyPost (c : Dev nD) (t : Fin (C m).N) : sProp 𝕄 :=
  iprop((dats m 0 c).Φ t.succ ∗ (dats m 0 c).owesAt () t.succ
    ∗ owns (c : Thread nD τ) (st m 0 t) fullShare ((dats m 0 c).after 0 t)
    ∗ owns (c : Thread nD τ) (st m 1 t) fullShare ((dats m 0 c).after 1 t)
    ∗ owns (c : Thread nD τ) (st m 2 t) fullShare ((dats m 0 c).after 2 t)
    ∗ owns (c : Thread nD τ) (st m 3 t) fullShare ((dats m 0 c).after 3 t)
    ∗ owns (c : Thread nD τ) (st m 4 t) fullShare ((dats m 0 c).after 4 t)
    ∗ owns (c : Thread nD τ) (st m 5 t) fullShare ((dats m 0 c).after 5 t)
    ∗ owns (c : Thread nD τ) (st m 6 t) fullShare ((dats m 0 c).after 6 t)
    ∗ owns (c : Thread nD τ) (st m 7 t) fullShare ((dats m 0 c).after 7 t)
    ∗ owns (c : Thread nD τ) (st m 8 t) fullShare ((dats m 0 c).after 8 t)
    ∗ owns (c : Thread nD τ) (st m 9 t) fullShare ((dats m 0 c).after 9 t)
    ∗ owns (c : Thread nD τ) (st m 10 t) fullShare ((dats m 0 c).after 10 t)
    ∗ owns (c : Thread nD τ) (st m 11 t) fullShare ((dats m 0 c).after 11 t)
    ∗ leaves m c t 12
    ∗ leaves m c t 13
    ∗ leaves m c t 14
    ∗ leaves m c t 15)

theorem one_dev (c : Dev nD) : c = 0 := Subsingleton.elim (α := Fin 1) c 0

set_option maxHeartbeats 4000000 in
/-- The body at a point, from what it does to its buffers there (`hb`): `P14` and `P15` are what it needs of the two sums'
    buffers, and `v12`, `v13`, `v14`, `v15` what it leaves in the outputs'. -/
theorem sound_body_of (t : Fin (C m).N) (P14 P15 : sProp 𝕄) (v12 : Vec F S1x64x40x128 .bf16) (v13 : Vec F S1x64x8x128 .bf16) (v14 v15 : Vec F S8x128 .f32)
    (h14 : ∀ d, owns ((0 : Dev nD) : Thread nD τ) (st m 14 t) fullShare ((dats m 0 0).before 14 t d) ⊢ P14)
    (h15 : ∀ d, owns ((0 : Dev nD) : Thread nD τ) (st m 15 t) fullShare ((dats m 0 0).before 15 t d) ⊢ P15)
    (e12 : owns ((0 : Dev nD) : Thread nD τ) (st m 12 t) fullShare v12 ⊢ leaves m 0 t 12)
    (e13 : owns ((0 : Dev nD) : Thread nD τ) (st m 13 t) fullShare v13 ⊢ leaves m 0 t 13)
    (e14 : owns ((0 : Dev nD) : Thread nD τ) (st m 14 t) fullShare v14 ⊢ leaves m 0 t 14)
    (e15 : owns ((0 : Dev nD) : Thread nD τ) (st m 15 t) fullShare v15 ⊢ leaves m 0 t 15)
    (hb : ∀ K : PUnit.{1} → sProp 𝕄,
      iprop(owns ((0 : Dev nD) : Thread nD τ) (st m 0 t) fullShare (iblk m 0 0 t) ∗ owns ((0 : Dev nD) : Thread nD τ) (st m 1 t) fullShare (iblk m 0 1 t) ∗ owns ((0 : Dev nD) : Thread nD τ) (st m 2 t) fullShare (iblk m 0 2 t) ∗ owns ((0 : Dev nD) : Thread nD τ) (st m 3 t) fullShare (iblk m 0 3 t) ∗ owns ((0 : Dev nD) : Thread nD τ) (st m 4 t) fullShare (iblk m 0 4 t) ∗ owns ((0 : Dev nD) : Thread nD τ) (st m 5 t) fullShare (iblk m 0 5 t) ∗ owns ((0 : Dev nD) : Thread nD τ) (st m 6 t) fullShare (iblk m 0 6 t) ∗ owns ((0 : Dev nD) : Thread nD τ) (st m 7 t) fullShare (iblk m 0 7 t) ∗ owns ((0 : Dev nD) : Thread nD τ) (st m 8 t) fullShare (iblk m 0 8 t) ∗ owns ((0 : Dev nD) : Thread nD τ) (st m 9 t) fullShare (iblk m 0 9 t) ∗ owns ((0 : Dev nD) : Thread nD τ) (st m 10 t) fullShare (iblk m 0 10 t) ∗ owns ((0 : Dev nD) : Thread nD τ) (st m 11 t) fullShare (iblk m 0 11 t)
        ∗ (∃ d, owns ((0 : Dev nD) : Thread nD τ) (st m 12 t) fullShare d) ∗ (∃ d, owns ((0 : Dev nD) : Thread nD τ) (st m 13 t) fullShare d) ∗ P14 ∗ P15 ∗ ((((0 : Dev nD) : Thread nD τ).loc main_arg11) ↦{fullShare.right} (show Buf (Elt F) (((0 : Dev nD) : Thread nD τ).loc main_arg11) from pf m 0)))
      ⊢ iprop(((owns ((0 : Dev nD) : Thread nD τ) (st m 0 t) fullShare (iblk m 0 0 t) ∗ owns ((0 : Dev nD) : Thread nD τ) (st m 1 t) fullShare (iblk m 0 1 t) ∗ owns ((0 : Dev nD) : Thread nD τ) (st m 2 t) fullShare (iblk m 0 2 t) ∗ owns ((0 : Dev nD) : Thread nD τ) (st m 3 t) fullShare (iblk m 0 3 t) ∗ owns ((0 : Dev nD) : Thread nD τ) (st m 4 t) fullShare (iblk m 0 4 t) ∗ owns ((0 : Dev nD) : Thread nD τ) (st m 5 t) fullShare (iblk m 0 5 t) ∗ owns ((0 : Dev nD) : Thread nD τ) (st m 6 t) fullShare (iblk m 0 6 t) ∗ owns ((0 : Dev nD) : Thread nD τ) (st m 7 t) fullShare (iblk m 0 7 t) ∗ owns ((0 : Dev nD) : Thread nD τ) (st m 8 t) fullShare (iblk m 0 8 t) ∗ owns ((0 : Dev nD) : Thread nD τ) (st m 9 t) fullShare (iblk m 0 9 t) ∗ owns ((0 : Dev nD) : Thread nD τ) (st m 10 t) fullShare (iblk m 0 10 t) ∗ owns ((0 : Dev nD) : Thread nD τ) (st m 11 t) fullShare (iblk m 0 11 t)
          ∗ owns ((0 : Dev nD) : Thread nD τ) (st m 12 t) fullShare v12 ∗ owns ((0 : Dev nD) : Thread nD τ) (st m 13 t) fullShare v13
          ∗ owns ((0 : Dev nD) : Thread nD τ) (st m 14 t) fullShare v14 ∗ owns ((0 : Dev nD) : Thread nD τ) (st m 15 t) fullShare v15 ∗ ((((0 : Dev nD) : Thread nD τ).loc main_arg11) ↦{fullShare.right} (show Buf (Elt F) (((0 : Dev nD) : Thread nD τ).loc main_arg11) from pf m 0))) -∗ K ⟨⟩)
        -∗ wp frame (wpE (defs₀ (F := F)) Variants.none (0 : Dev nD) none) Set.univ (bodyAt m t) K)) :
    bodyPre m 0 t ⊢ wp frame (wpE (defs₀ (F := F)) Variants.none (0 : Dev nD) none) Set.univ (bodyAt m t) (fun _ => bodyPost m 0 t) := by
  unfold bodyPre bodyPost
  simp only [before_0, before_1, before_2, before_3, before_4, before_5, before_6, before_7, before_8, before_9, before_10, before_11, after_0, after_1, after_2, after_3, after_4, after_5, after_6, after_7, after_8, after_9, after_10, after_11]
  rw [show (dats m 0 0).Φ t.succ = (dats m 0 0).Φ t.castSucc from rfl,
    show (dats m 0 0).owesAt () t.succ = (dats m 0 0).owesAt () t.castSucc from rfl,
    show (dats m 0 0).Φ t.castSucc = iprop(Pipeline.ΦA spec0 0 ∗ Pipeline.ΦT pre0 (pf m) 0) from rfl, table_eq]
  iintro ⟨⟨HA, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (hb _) $$ [H0 H1 H2 H3 H4 H5 H6 H7 H8 H9 H10 H11 H12 H13 H14 H15 Ht]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iapply (h14 d14); iexact H14
    isplitl [H15]; · iapply (h15 d15); iexact H15
    iexact Ht
  iintro ⟨H0, H1, H2, H3, H4, H5, H6, H7, H8, H9, H10, H11, H12, H13, H14, H15, Ht⟩
  isplitl [HA Ht]
  · isplitl [HA]; · iexact HA
    iexact Ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply e12; iexact H12
  isplitl [H13]; · iapply e13; iexact H13
  isplitl [H14]; · iapply e14; iexact H14
  iapply e15; iexact H15

/-- A buffer whose contents do not matter. -/
theorem owns_some (t : Fin (C m).N) (w : Fin (C m).W) (v) : owns ((0 : Dev nD) : Thread nD τ) (st m w t) fullShare v ⊢ (iprop(∃ d, owns ((0 : Dev nD) : Thread nD τ) (st m w t) fullShare d) : sProp 𝕄) := by
  iintro H; iexists v; iexact H

set_option maxHeartbeats 4000000 in
/-- The body is right at every point: with or without a live token, the first point or a later one. -/
theorem sound_body (c : Dev nD) (t : Fin (C m).N) :
    bodyPre m c t ⊢ wp frame (wpE (defs₀ (F := F)) Variants.none c none) Set.univ (bodyAt m t) (fun _ => bodyPost m c t) := by
  obtain rfl := one_dev c
  have e12 := leaves_of_stored m 0 t 12 (idle_12 m t)
  have e13 := leaves_of_stored m 0 t 13 (idle_13 m t)
  rw [after_12] at e12
  rw [after_13] at e13
  have hload := load_eq m t
  by_cases h2 : k0_cond2 (pt m t) (lenAt m t) = 1#1
  · have h3 : ¬k0_cond3 (pt m t) (lenAt m t) = 1#1 := fun h => (cond3_iff _ _).mp h h2
    have e14 := leaves_of_stored m 0 t 14 (by rw [idle_14, h2]; exact Bool.and_false _)
    have e15 := leaves_of_stored m 0 t 15 (by rw [idle_15, h2]; exact Bool.and_false _)
    rw [after_14, sumsQ_live m 0 t h2] at e14
    rw [after_15, sumsK_live m 0 t h2] at e15
    rw [resQ_live m 0 t h2] at e12
    rw [resK_live m 0 t h2] at e13
    by_cases h0 : t.val = 0
    · rw [h0] at e14 e15
      exact sound_body_of m t _ _ _ _ _ _ (fun _ => owns_some m t 14 _) (fun _ => owns_some m t 15 _) e12 e13 e14 e15 fun _ =>
        sound_first_live (pt m t) 0 _ (lenAt m t) hload ((cond1_iff t).mpr h0) h2 h3 _ _ _ _ _ _ _ _ _ _ _ _ _ _ _ _ _ _ _ _ _ _ _ _ _ _ _ _ _ _ _ _ (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t)
    · exact sound_body_of m t _ _ _ _ _ _ (fun d => by rw [before_14 m 0 t h0]; exact .rfl) (fun d => by rw [before_15 m 0 t h0]; exact .rfl) e12 e13 e14 e15 fun _ =>
        sound_next_live (pt m t) 0 _ (lenAt m t) hload (fun h => h0 ((cond1_iff t).mp h)) h2 h3 _ _ _ _ _ _ _ _ _ _ _ _ _ _ _ _ _ _ _ _ _ _ _ _ _ _ _ _ _ _ _ _ (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t) (sumsQ m 0 t.val) (sumsK m 0 t.val)
  · have h3 : k0_cond3 (pt m t) (lenAt m t) = 1#1 := (cond3_iff _ _).mpr h2
    rw [resQ_dead m 0 t h2] at e12
    rw [resK_dead m 0 t h2] at e13
    by_cases h0 : t.val = 0
    · have h1 := (cond1_iff t).mpr h0
      have e14 := leaves_of_stored m 0 t 14 (by rw [idle_14, h1]; rfl)
      have e15 := leaves_of_stored m 0 t 15 (by rw [idle_15, h1]; rfl)
      rw [after_14, sumsQ_dead m 0 t h2, h0] at e14
      rw [after_15, sumsK_dead m 0 t h2, h0] at e15
      exact sound_body_of m t _ _ _ _ _ _ (fun _ => owns_some m t 14 _) (fun _ => owns_some m t 15 _) e12 e13 e14 e15 fun _ =>
        sound_first_dead (pt m t) 0 _ (lenAt m t) hload h1 h2 h3 _ _ _ _ _ _ _ _ _ _ _ _ _ _ _ _ _ _ _ _ _ _ _ _ _ _ _ _ _ _ _ _ (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t)
    · have e14 := leaves_of_kept m 0 t 14 (fun d => by rw [before_14 m 0 t h0, after_14, sumsQ_dead m 0 t h2])
      have e15 := leaves_of_kept m 0 t 15 (fun d => by rw [before_15 m 0 t h0, after_15, sumsK_dead m 0 t h2])
      rw [after_14, sumsQ_dead m 0 t h2] at e14
      rw [after_15, sumsK_dead m 0 t h2] at e15
      exact sound_body_of m t _ _ _ _ _ _ (fun d => by rw [before_14 m 0 t h0]; exact .rfl) (fun d => by rw [before_15 m 0 t h0]; exact .rfl) e12 e13 e14 e15 fun _ =>
        sound_next_dead (pt m t) 0 _ (lenAt m t) hload (fun h => h0 ((cond1_iff t).mp h)) h2 h3 _ _ _ _ _ _ _ _ _ _ _ _ _ _ _ _ _ _ _ _ _ _ _ _ _ _ _ _ _ _ _ _ (iblk m 0 0 t) (iblk m 0 1 t) (iblk m 0 2 t) (iblk m 0 3 t) (iblk m 0 4 t) (iblk m 0 5 t) (iblk m 0 6 t) (iblk m 0 7 t) (iblk m 0 8 t) (iblk m 0 9 t) (iblk m 0 10 t) (iblk m 0 11 t) (sumsQ m 0 t.val) (sumsK m 0 t.val)

/-- The library's body obligation, at every point. -/
theorem body_obligation (c : Dev nD) : BodyObligation (dats (F := F) m 0 c) (defs₀ (F := F)) Variants.none () Set.univ := fun t => by
  rw [bigSep_W0, bigSep_W0]
  exact triple_restated (sound_body m c t) rfl .rfl fun _ => .rfl

/-! ## The run and the frame -/

theorem hostOps1_tail : ∀ ops ∈ ([hostOps1] : List (List (HloOp τ sig (Elt F)))), ∀ op ∈ ops, op.bufs ⊆ Pipeline.tailRefs (τ := τ) sig pre0 spec0 := by
  intro ops hops op hop
  obtain rfl := List.mem_singleton.mp hops
  refine Pipeline.sub_tailRefs pre0 spec0 op (List.forall_iff_forall_mem.mp hostOps1_sub op hop) (fun k => ?_)
  obtain rfl : k = 0 := Subsingleton.elim k 0
  revert op
  refine List.forall_iff_forall_mem.mp ?_
  simp only [hostOps1, List.Forall, StableHlo.nullary_bufs, StableHlo.binary_bufs, Finset.mem_singleton, Finset.mem_insert, not_or]
  repeat' apply And.intro
  all_goals exact StableHlo.devRef_ne_of_ne (by decide)
theorem hostOps1_keep : ∀ ops ∈ ([hostOps1] : List (List (HloOp τ sig (Elt F)))), ∀ op ∈ ops, ∀ w, Proc.devRef .tc (Pipeline.arrRef spec0 w) ∉ op.writes := by
  intro ops hops op hop w
  obtain rfl := List.mem_singleton.mp hops
  revert op
  refine List.forall_iff_forall_mem.mp ?_
  simp only [hostOps1, List.Forall, StableHlo.nullary_writes, StableHlo.binary_writes, Finset.mem_singleton]
  refine ⟨?_, ?_, ?_, ?_⟩
  all_goals exact StableHlo.devRef_ne_of_ne (by revert w; decide)

/-- What a buffer holds at the end of @main: the arrays as the region leaves them, the rest after the operations that
    follow it. -/
abbrev Vend (c : Dev nD) (b : Ref sig .tc) : Buf (Elt F) ((c : Thread nD τ).loc b) :=
  Pipeline.afterTail pcfgs (adm m) (dats m) 0 (V₀ m) [hostOps1] c b

set_option backward.isDefEq.respectTransparency.types false in
set_option maxHeartbeats 4000000 in
/-- Every execution of @main ends, with the arrays at what the proof data give and every semaphore back at zero. -/
theorem run_main_quiescent : θ_run defs (onTc (τ := τ) (main (F := F))) (s₀ m ρ)
    (fun r => Pipeline.FramePost (Pipeline.pin pcfgs (adm m)) (dats m) 0 (Vend m) r ∧ r.2.sem = fun _ => 0) :=
  Pipeline.θ_run_frameP_around_track pcfgs (adm m) (dats m) (0 : Fin 1) launch0 defs₀ Variants.none m ρ main
    (hbody := fun c => (body_obligation m c).loose) (hshare := fun c => (dats m 0 c).share_full fun _ => rfl)
    (howed := fun _ _ => rfl) (V₀ := V₀ m) (opss := [hostOps1]) (hsub := hostOps1_tail)
    (hfresh := fun ops hops op hop => by obtain rfl := List.mem_singleton.mp hops; exact List.forall_iff_forall_mem.mp hostOps1_fresh op hop)
    (hkeep := hostOps1_keep) (hmain := hmain m) (hA := A_eq m)
    (hpf := fun c k => by
      obtain rfl := one_dev c
      obtain rfl : k = 0 := Subsingleton.elim k 0
      exact V_kept m 0 main_arg11 (by decide))
    (hin := fun c => .rfl) (hout := fun c => by
      show iprop(Pipeline.ΦA spec0 c ∗ Pipeline.ΦT pre0 (pf m) c) ⊢ Pipeline.ΦA spec0 c
      iintro ⟨H, -⟩; iexact H)
    (Q' := _) (hQ' := fun _ h => h)

/-- An argument the pipeline does not stage is at the end as it was: no operation before or after the region writes it. -/
theorem Vend_kept (c : Dev nD) (b : Ref sig .tc) (h0 : V m c b = m ((c : Thread nD τ).loc b)) (hw : ∀ w, Pipeline.arrRef spec0 w ≠ b)
    (h : b ∉ ([main_cst_2, main_v14, main_cst_3, main_v15] : List (Ref sig .tc))) : Vend m c b = m ((c : Thread nD τ).loc b) := by
  unfold Vend Pipeline.afterTail
  rw [StableHlo.after_of_forall_not_mem (b := Proc.devRef .tc b) _ _ (List.forall_iff_forall_mem.mp (by
    simp only [hostOps1, List.flatten_cons, List.flatten_nil, List.append_nil, List.Forall, StableHlo.nullary_writes, StableHlo.binary_writes, Finset.mem_singleton]
    repeat' apply And.intro
    all_goals exact StableHlo.devRef_ne_of_ne fun e => h (by rw [e]; decide)))]
  exact (Pipeline.withArrays_of_ne spec0 c (V₀ m c) _ b hw).trans h0

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).1 0).trans (((dats m 0 c).arrAt_in 0 rfl _).trans ((A_eq m c 0).trans (V_kept m c main_arg0 (by decide)))),
      ((h.1 c).1 1).trans (((dats m 0 c).arrAt_in 1 rfl _).trans ((A_eq m c 1).trans (V_kept m c main_arg1 (by decide)))),
      ((h.1 c).1 2).trans (((dats m 0 c).arrAt_in 2 rfl _).trans ((A_eq m c 2).trans (V_kept m c main_arg2 (by decide)))),
      ((h.1 c).1 3).trans (((dats m 0 c).arrAt_in 3 rfl _).trans ((A_eq m c 3).trans (V_kept m c main_arg3 (by decide)))),
      ((h.1 c).1 4).trans (((dats m 0 c).arrAt_in 4 rfl _).trans ((A_eq m c 4).trans (V_kept m c main_arg4 (by decide)))),
      ((h.1 c).1 5).trans (((dats m 0 c).arrAt_in 5 rfl _).trans ((A_eq m c 5).trans (V_kept m c main_arg5 (by decide)))),
      ((h.1 c).1 6).trans (((dats m 0 c).arrAt_in 6 rfl _).trans ((A_eq m c 6).trans (V_kept m c main_arg6 (by decide)))),
      ((h.1 c).1 7).trans (((dats m 0 c).arrAt_in 7 rfl _).trans ((A_eq m c 7).trans (V_kept m c main_arg7 (by decide)))),
      ((h.1 c).2 main_arg8 (Pipeline.mem_restRefs_of (win := spec0) main_arg8 rfl (by decide))).trans (Vend_kept m c main_arg8 (V_kept m c main_arg8 (by decide)) (by decide) (by decide)),
      ((h.1 c).2 main_arg9 (Pipeline.mem_restRefs_of (win := spec0) main_arg9 rfl (by decide))).trans (Vend_kept m c main_arg9 (V_kept m c main_arg9 (by decide)) (by decide) (by decide)),
      ((h.1 c).2 main_arg10 (Pipeline.mem_restRefs_of (win := spec0) main_arg10 rfl (by decide))).trans (Vend_kept m c main_arg10 (V_kept m c main_arg10 (by decide)) (by decide) (by decide)),
      ((h.1 c).2 main_arg11 (Pipeline.mem_restRefs_of (win := spec0) main_arg11 rfl (by decide))).trans (Vend_kept m c main_arg11 (V_kept m c main_arg11 (by decide)) (by decide) (by decide))⟩, h.2⟩) (run_main_quiescent m ρ)

end Cert.KernelIdeal.Run

end
-- ==== Proof.Row.lean ====
module

public import Idealize.ShloMosaic.Lib.Pointwise

@[expose] public section

/-! # One row of the backward pass

The programs handle each head of each token as one row of 128 lanes. The functions here say, over the
ideal numbers, what a row becomes. `y` is the row of the incoming gradient, `x` the row of the saved
activation, `g` the gains, `a` the 64 rotation angles of the token. -/

set_option maxRecDepth 16384
noncomputable section
open Idealize.ShloMosaic Idealize.SL.Sem

namespace Cert.Row

/-- one over the root mean square of a row -/
def rstd (x : Fin 128 → EReal) : EReal :=
  Ideal.rsqrt (Ideal.div (∑ k, x k * x k) (Ideal.ofBits .f32 0x43000000#32) + Ideal.ofBits .f32 0x358637BD#32)

/-- the normalized row -/
def xhat (x : Fin 128 → EReal) (j : Fin 128) : EReal := x j * rstd x

/-- the gradient rotated back -/
def unrot (y : Fin 128 → EReal) (a : Fin 64 → EReal) (j : Fin 128) : EReal :=
  if h : (j : ℕ) < 64 then y j * Ideal.cos (a ⟨j, h⟩) + y ⟨64 + j, by omega⟩ * Ideal.sin (a ⟨j, h⟩)
  else y j * Ideal.cos (a ⟨j - 64, by omega⟩) - y ⟨j - 64, by omega⟩ * Ideal.sin (a ⟨j - 64, by omega⟩)

/-- the gradient of the row, from the gradient `d` of the scaled normalized row -/
def dx (d g x : Fin 128 → EReal) (j : Fin 128) : EReal :=
  rstd x * (d j * g j - xhat x j * Ideal.div (∑ k, d k * g k * xhat x k) (Ideal.ofBits .f32 0x43000000#32))

/-- the row's share of the gradient of the gains -/
def dg (d x : Fin 128 → EReal) (j : Fin 128) : EReal := d j * xhat x j

/-- `v` at a token `s` below the sequence length `n`, zero past it -/
def keep (s : ℕ) (n : BitVec 32) (v : EReal) : EReal := Scalar.select (Scalar.cmpi .slt (BitVec.ofNat 32 s) n) v 0

/-- The rotation with the lanes of the second half counted from the half's first lane. -/
theorem unrot_halves (y : Fin 128 → EReal) (a : Fin 64 → EReal) (j : Fin 128) :
    (if h : (j : ℕ) < 64 then y j * Ideal.cos (a ⟨j, h⟩) + y ⟨64 + j, by omega⟩ * Ideal.sin (a ⟨j, h⟩)
      else y ⟨64 + (j - 64), by omega⟩ * Ideal.cos (a ⟨j - 64, by omega⟩) - y ⟨j - 64, by omega⟩ * Ideal.sin (a ⟨j - 64, by omega⟩))
      = unrot y a j := by
  unfold unrot
  by_cases h : (j : ℕ) < 64
  · rw [dif_pos h, dif_pos h]
  · have hj : (⟨64 + ((j : ℕ) - 64), by omega⟩ : Fin 128) = j := Fin.ext (by simp only; omega)
    rw [dif_neg h, dif_neg h, hj]

/-- A sum over all axes but the last, read at a lane. -/
theorem reduceAdd_front {A B C D : ℕ} (h : (⟨4, ![A, B, C, D]⟩ : Shape).Reduces [0, 1, 2] ⟨1, ![D]⟩)
    (v : (⟨4, ![A, B, C, D]⟩ : Shape).Idx → EReal) (j : Fin D) :
    Ideal.reduceAdd h v (ix1 j) = ∑ a : Fin A, ∑ b : Fin B, ∑ c : Fin C, v (ix4 a b c j) := by
  have hd : ∀ i, h.drop i = ix1 j ↔ ∃ k : Fin A × Fin B × Fin C, ix4 k.1 k.2.1 k.2.2 j = i := by
    intro i
    constructor
    · intro e
      refine ⟨(i 0, i 1, i 2), ?_⟩
      funext a; apply Fin.ext
      match a with
      | ⟨0, _⟩ => rfl
      | ⟨1, _⟩ => rfl
      | ⟨2, _⟩ => rfl
      | ⟨3, _⟩ => exact (congrArg Fin.val (congrFun e 0)).symm
    · rintro ⟨k, rfl⟩
      funext b
      apply Fin.ext
      match b with
      | ⟨0, _⟩ => rfl
  refine (Finset.sum_filter_eq_sum_of_fiber _ (fun k : Fin A × Fin B × Fin C => ix4 k.1 k.2.1 k.2.2 j)
    (fun _ _ e => Prod.ext (congrFun e 0) (Prod.ext (congrFun e 1) (congrFun e 2))) hd v).trans ?_
  simp only [Fintype.sum_prod_type]

end Cert.Row
-- ==== Proof.KPure.lean ====
module

public import proofs.«01_k».proof.Proof.Row
public import proofs.«01_k».proof.Proof.KernelIdealBody

@[expose] public section

set_option maxRecDepth 16384
noncomputable section
open Idealize.ShloMosaic Idealize.ShloMosaic.TcCoe Idealize.SL.Sem
open Cert.KernelIdeal Cert.KernelIdeal.Gen
namespace Cert.KernelIdeal.Run
open Cert.Row

/-- the rotation angles of token `r` of a block, read from the positions and the first half of the frequencies -/
def ang (p : Vec Ideal S1x64x1 .i32) (f : Vec Ideal S1x128 .f32) (r : Fin 64) (k : Fin 64) : EReal :=
  (FloatOps.sitofp FTy.f32 (p (ix3 0 r 0)) : Ideal .f32) * (show EReal from f (ix2 0 ⟨k, by omega⟩))

/-- The kernel turns the other half of the row by the signed sine: the same as the two halves apart. -/
theorem roll_eq (y : Fin 128 → EReal) (a : Fin 64 → EReal) (b : EReal) (j : Fin 128)
    (hb : b = a ⟨(j : ℕ) % 64, Nat.mod_lt _ (by decide)⟩) :
    y j * Ideal.cos b + y ⟨((j : ℕ) + 128 - 64) % 128, Nat.mod_lt _ (by decide)⟩
      * Scalar.select (IntOp.cmpi CmpIPredicate.slt (BitVec.ofNat 32 (j : ℕ)) 64#32) (Ideal.sin b) (0 - Ideal.sin b)
      = unrot y a j := by
  subst hb
  by_cases h : (j : ℕ) < 64
  · have h1 : (⟨((j : ℕ) + 128 - 64) % 128, Nat.mod_lt _ (by decide)⟩ : Fin 128) = ⟨64 + j, by omega⟩ := by
      apply Fin.ext; show _ = _; simp only; omega
    have h2 : (⟨(j : ℕ) % 64, Nat.mod_lt _ (by decide)⟩ : Fin 64) = ⟨j, h⟩ := by
      apply Fin.ext; show _ = _; simp only; omega
    have h3 : IntOp.cmpi CmpIPredicate.slt (BitVec.ofNat 32 (j : ℕ)) 64#32 = 1#1 := by
      have : ∀ k : Fin 64, IntOp.cmpi CmpIPredicate.slt (BitVec.ofNat 32 (k : ℕ)) 64#32 = 1#1 := by decide +kernel
      exact this ⟨j, h⟩
    rw [h1, h2, h3, unrot, dif_pos h]; rfl
  · have h1 : (⟨((j : ℕ) + 128 - 64) % 128, Nat.mod_lt _ (by decide)⟩ : Fin 128) = ⟨j - 64, by omega⟩ := by
      apply Fin.ext; show _ = _; simp only; omega
    have h2 : (⟨(j : ℕ) % 64, Nat.mod_lt _ (by decide)⟩ : Fin 64) = ⟨j - 64, by omega⟩ := by
      apply Fin.ext; show _ = _; simp only; omega
    have h3 : IntOp.cmpi CmpIPredicate.slt (BitVec.ofNat 32 (j : ℕ)) 64#32 = 0#1 := by
      have : ∀ k : Fin 128, ¬ (k : ℕ) < 64 → IntOp.cmpi CmpIPredicate.slt (BitVec.ofNat 32 (k : ℕ)) 64#32 = 0#1 := by decide +kernel
      exact this j h
    rw [h1, h2, h3, unrot, dif_neg h]
    show _ + _ * (0 - _) = _
    rw [zero_sub, mul_neg, sub_eq_add_neg]

variable (i : grid0.Coords) (n : BitVec 32)

/-- A token of a block is kept when its position in the sequence is below the length. -/
theorem liveRows_at (r : Fin 64) (v : EReal) :
    Scalar.select (liveRows (F := Ideal) i n (ix3 r 0 0)) v 0 = keep ((i 1).val * 64 + r) n v := by
  have h : liveRows (F := Ideal) i n (ix3 r 0 0) = Scalar.cmpi .slt (BitVec.ofNat 32 ((i 1).val * 64 + r)) n := by
    pointwise [liveRows, k0_pay9]
    show IntOp.cmpi _ (BitVec.ofNat 32 (r : ℕ) + BitVec.ofNat 32 (i 1).val * BitVec.ofNat 32 64) n = _
    rw [← BitVec.ofNat_mul, ← BitVec.ofNat_add, add_comm]; rfl
  rw [h, keep]

section Queries
variable (p : Vec Ideal S1x64x1 .i32) (f : Vec Ideal S1x128 .f32) (hf : ∀ k : Fin 128, f (ix2 0 k) = f (ix2 0 ⟨(k : ℕ) % 64, Nat.lt_of_lt_of_le (Nat.mod_lt _ (by decide)) (by decide)⟩))
  (y : Vec Ideal S1x64x40x128 .fp8e5m2) (s : Vec Ideal S1x64x40 .f32)
  (x : Vec Ideal S1x64x40x128 .fp8e4m3) (xs : Vec Ideal S1x64x40 .f32) (g : Vec Ideal S1x128 .f32)

/-- a row of the incoming gradient, -/
def yQ (r : Fin 64) (h : Fin 40) (k : Fin 128) : EReal := (show EReal from y (ix4 0 r h k)) * (show EReal from s (ix3 0 r h))
/-- and of the saved activation -/
def xQ (r : Fin 64) (h : Fin 40) (k : Fin 128) : EReal := (show EReal from x (ix4 0 r h k)) * (show EReal from xs (ix3 0 r h))

include hf in
theorem dn_q (r : Fin 64) (h : Fin 40) (j : Fin 128) :
    k0_pay14 (k0_pay7 p f) (k0_pay8 p f) (k0_pay10 y s) (ix3 r h j) = unrot (yQ y s r h) (ang p f r) j := by
  pointwise [k0_pay14, k0_pay7, k0_pay8, k0_pay10, k0_pay6]
  exact roll_eq (yQ y s r h) (ang p f r) _ j (by rw [ang, ← hf j])

theorem x_q (r : Fin 64) (h : Fin 40) (k : Fin 128) : k0_pay13 (F := Ideal) (k0_pay11 x) (k0_pay12 xs) (ix3 r h k) = xQ x xs r h k := by
  pointwise [k0_pay13, k0_pay11, k0_pay12]; rfl

theorem rstd_q (r : Fin 64) (h : Fin 40) : k0_pay15 (F := Ideal) (k0_pay11 x) (k0_pay12 xs) (ix3 r h 0) = rstd (xQ x xs r h) := by
  pointwise [k0_pay15, x_q]; rfl

theorem xhat_q (r : Fin 64) (h : Fin 40) (k : Fin 128) :
    k0_pay16 (F := Ideal) (k0_pay11 x) (k0_pay12 xs) (ix3 r h k) = xhat (xQ x xs r h) k := by
  pointwise [k0_pay16, x_q, rstd_q]; rfl

include hf in
/-- What the body stores of q's gradient, read at a row and a lane. -/
theorem outQ_at (r : Fin 64) (h : Fin 40) (j : Fin 128) :
    outQ (F := Ideal) i n y s x xs g p f (ix4 0 r h j)
      = keep ((i 1).val * 64 + r) n (dx (unrot (yQ y s r h) (ang p f r)) (fun k => g (ix2 0 k)) (xQ x xs r h) j) := by
  rw [← liveRows_at]
  pointwise [outQ, k0_pay19, k0_pay18, rstd_q, xhat_q, dn_q p f hf y s]
  rfl

include hf in
/-- What the body adds to q's sums of the gain's gradient. -/
theorem sumQ_at (a : Vec Ideal S8x128 .f32) (r : Fin 8) (j : Fin 128) :
    sumQ (F := Ideal) i n y s x xs p f a (ix2 r j) = a (ix2 r j) + ∑ u : Fin 5, ∑ q : Fin 64,
      keep ((i 1).val * 64 + q) n (dg (unrot (yQ y s q ⟨u * 8 + r, by omega⟩) (ang p f q)) (xQ x xs q ⟨u * 8 + r, by omega⟩) j) := by
  simp only [← liveRows_at]
  pointwise [sumQ, k0_pay17, xhat_q, dn_q p f hf y s]
  rfl
end Queries

section Keys
variable (p : Vec Ideal S1x64x1 .i32) (f : Vec Ideal S1x128 .f32) (hf : ∀ k : Fin 128, f (ix2 0 k) = f (ix2 0 ⟨(k : ℕ) % 64, Nat.lt_of_lt_of_le (Nat.mod_lt _ (by decide)) (by decide)⟩))
  (y : Vec Ideal S1x64x8x128 .fp8e5m2) (s : Vec Ideal S1x64x8 .f32)
  (x : Vec Ideal S1x64x8x128 .fp8e4m3) (xs : Vec Ideal S1x64x8 .f32) (g : Vec Ideal S1x128 .f32)

/-- The same for k: a row of the incoming gradient, -/
def yK (r : Fin 64) (h : Fin 8) (k : Fin 128) : EReal := (show EReal from y (ix4 0 r h k)) * (show EReal from s (ix3 0 r h))
/-- and of the saved activation -/
def xK (r : Fin 64) (h : Fin 8) (k : Fin 128) : EReal := (show EReal from x (ix4 0 r h k)) * (show EReal from xs (ix3 0 r h))

include hf in
theorem dn_k (r : Fin 64) (h : Fin 8) (j : Fin 128) :
    k0_pay22 (k0_pay7 p f) (k0_pay8 p f) y s (ix3 r h j) = unrot (yK y s r h) (ang p f r) j := by
  pointwise [k0_pay22, k0_pay7, k0_pay8, k0_pay6]
  exact roll_eq (yK y s r h) (ang p f r) _ j (by rw [ang, ← hf j])

theorem x_k (r : Fin 64) (h : Fin 8) (k : Fin 128) : k0_pay20 (F := Ideal) x xs (ix3 r h k) = xK x xs r h k := by
  pointwise [k0_pay20]; rfl

theorem rstd_k (r : Fin 64) (h : Fin 8) : k0_pay24 (F := Ideal) (k0_pay23 x xs) (ix3 r h 0) = rstd (xK x xs r h) := by
  pointwise [k0_pay24, k0_pay23, x_k]; rfl

theorem xhat_k (r : Fin 64) (h : Fin 8) (k : Fin 128) :
    k0_pay25 (F := Ideal) (k0_pay20 x xs) (k0_pay23 x xs) (ix3 r h k) = xhat (xK x xs r h) k := by
  pointwise [k0_pay25, x_k, rstd_k]; rfl

include hf in
/-- What the body stores of k's gradient, read at a row and a lane. -/
theorem outK_at (r : Fin 64) (h : Fin 8) (j : Fin 128) :
    outK (F := Ideal) i n y s x xs g p f (ix4 0 r h j)
      = keep ((i 1).val * 64 + r) n (dx (unrot (yK y s r h) (ang p f r)) (fun k => g (ix2 0 k)) (xK x xs r h) j) := by
  rw [← liveRows_at]
  pointwise [outK, k0_pay3, k0_pay27, k0_pay21, rstd_k, xhat_k, dn_k p f hf y s]
  rfl

include hf in
/-- What the body adds to k's sums of the gain's gradient. -/
theorem sumK_at (a : Vec Ideal S8x128 .f32) (r : Fin 8) (j : Fin 128) :
    sumK (F := Ideal) i n y s x xs p f a (ix2 r j) = a (ix2 r j) + ∑ u : Fin 1, ∑ q : Fin 64,
      keep ((i 1).val * 64 + q) n (dg (unrot (yK y s q ⟨u * 8 + r, by omega⟩) (ang p f q)) (xK x xs q ⟨u * 8 + r, by omega⟩) j) := by
  simp only [← liveRows_at]
  pointwise [sumK, k0_pay26, xhat_k, dn_k p f hf y s]
  rfl
end Keys
end Cert.KernelIdeal.Run
-- ==== Proof.RPure.lean ====
module

public import proofs.«01_k».proof.Proof.Row
public import proofs.«01_k».proof.Proof.Gen.ReferenceIdeal.Frame

@[expose] public section

set_option maxRecDepth 16384
noncomputable section
open Idealize.ShloMosaic Idealize.ShloMosaic.TcCoe Idealize.SL.Sem
open Cert.ReferenceIdeal Cert.ReferenceIdeal.Gen
namespace Cert.ReferenceIdeal.Value
open Cert.Row

/-- the rotation angles of a token -/
def ang (p : Vec Ideal S4x8192 .i32) (f : Vec Ideal S64 .f32) (b : Fin 4) (t : Fin 8192) (k : Fin 64) : EReal :=
  (FloatOps.sitofp FTy.f32 (p (ix2 b t)) : Ideal .f32) * (show EReal from f (ix1 k))

/-- A token is kept when its position in the sequence is below the length. -/
theorem valid_at (n : Vec Ideal S4 .i32) (b : Fin 4) (t : Fin 8192) (v : EReal) :
    Scalar.select (k0_pay2 (F := Ideal) n (ix4 b t 0 0)) v 0 = keep t (n (ix1 b)) v := by
  pointwise [k0_pay2]; rfl

variable (n : Vec Ideal S4 .i32) (p : Vec Ideal S4x8192 .i32) (f : Vec Ideal S64 .f32)

section Queries
variable (y : Vec Ideal S4x8192x40x128 .fp8e5m2) (s : Vec Ideal S4x8192x40 .f32)
  (x : Vec Ideal S4x8192x40x128 .fp8e4m3) (xs : Vec Ideal S4x8192x40 .f32) (g : Vec Ideal S128 .f32)

/-- a row of the incoming gradient of q, -/
def yQ (b : Fin 4) (t : Fin 8192) (h : Fin 40) (k : Fin 128) : EReal := (show EReal from y (ix4 b t h k)) * (show EReal from s (ix3 b t h))
/-- and of the saved activation -/
def xQ (b : Fin 4) (t : Fin 8192) (h : Fin 40) (k : Fin 128) : EReal := (show EReal from x (ix4 b t h k)) * (show EReal from xs (ix3 b t h))

theorem x_q (b : Fin 4) (t : Fin 8192) (h : Fin 40) (k : Fin 128) : k0_pay7 (F := Ideal) x xs (ix4 b t h k) = xQ x xs b t h k := by
  pointwise [k0_pay7]; rfl

theorem rstd_q (b : Fin 4) (t : Fin 8192) (h : Fin 40) : k0_pay13 (F := Ideal) (k0_pay7 x xs) (ix4 b t h 0) = rstd (xQ x xs b t h) := by
  pointwise [k0_pay13, x_q]; rfl

theorem xhat_q (b : Fin 4) (t : Fin 8192) (h : Fin 40) (k : Fin 128) :
    k0_pay14 (F := Ideal) (k0_pay7 x xs) (ix4 b t h k) = xhat (xQ x xs b t h) k := by
  pointwise [k0_pay14, x_q, rstd_q]; rfl

theorem dn_q (b : Fin 4) (t : Fin 8192) (h : Fin 40) (j : Fin 128) :
    k0_pay12 (k0_pay5 p f) (k0_pay8 y s) (k0_pay9 y s) (k0_pay10 p f y s) (k0_pay11 p f) (ix4 b t h j) = unrot (yQ y s b t h) (ang p f b t) j := by
  pointwise [k0_pay12, k0_pay5, k0_pay8, k0_pay9, k0_pay10, k0_pay11, k0_pay3, k0_pay4, k0_pay6]
  exact unrot_halves (yQ y s b t h) (ang p f b t) j

/-- q's gradient at a row and a lane. -/
theorem outQ_at (b : Fin 4) (t : Fin 8192) (h : Fin 40) (j : Fin 128) :
    k0_pay16 (k0_pay2 n) (k0_pay5 p f) g (k0_pay7 x xs) (k0_pay8 y s) (k0_pay9 y s) (k0_pay10 p f y s) (k0_pay11 p f) (ix4 b t h j)
      = keep t (n (ix1 b)) (dx (unrot (yQ y s b t h) (ang p f b t)) (fun k => g (ix1 k)) (xQ x xs b t h) j) := by
  rw [← valid_at]
  pointwise [k0_pay16, rstd_q, xhat_q, dn_q]
  rfl

/-- The gradient of q's gains. -/
theorem sumQ_at (j : Fin 128) :
    k0_pay15 (k0_pay2 n) (k0_pay5 p f) (k0_pay7 x xs) (k0_pay8 y s) (k0_pay9 y s) (k0_pay10 p f y s) (k0_pay11 p f) (ix1 j)
      = ∑ b : Fin 4, ∑ t : Fin 8192, ∑ h : Fin 40,
        keep t (n (ix1 b)) (dg (unrot (yQ y s b t h) (ang p f b t)) (xQ x xs b t h) j) := by
  simp only [← valid_at]
  refine (reduceAdd_front _ _ j).trans ?_
  pointwise [xhat_q, dn_q]
  rfl

end Queries

section Keys
variable (y : Vec Ideal S4x8192x8x128 .fp8e5m2) (s : Vec Ideal S4x8192x8 .f32)
  (x : Vec Ideal S4x8192x8x128 .fp8e4m3) (xs : Vec Ideal S4x8192x8 .f32) (g : Vec Ideal S128 .f32)

/-- a row of the incoming gradient of k, -/
def yK (b : Fin 4) (t : Fin 8192) (h : Fin 8) (k : Fin 128) : EReal := (show EReal from y (ix4 b t h k)) * (show EReal from s (ix3 b t h))
/-- and of the saved activation -/
def xK (b : Fin 4) (t : Fin 8192) (h : Fin 8) (k : Fin 128) : EReal := (show EReal from x (ix4 b t h k)) * (show EReal from xs (ix3 b t h))

theorem x_k (b : Fin 4) (t : Fin 8192) (h : Fin 8) (k : Fin 128) : k0_pay17 (F := Ideal) x xs (ix4 b t h k) = xK x xs b t h k := by
  pointwise [k0_pay17]; rfl

theorem rstd_k (b : Fin 4) (t : Fin 8192) (h : Fin 8) : k0_pay19 (F := Ideal) x xs (ix4 b t h 0) = rstd (xK x xs b t h) := by
  pointwise [k0_pay19, x_k]; rfl

theorem xhat_k (b : Fin 4) (t : Fin 8192) (h : Fin 8) (k : Fin 128) :
    k0_pay20 (F := Ideal) x xs (ix4 b t h k) = xhat (xK x xs b t h) k := by
  pointwise [k0_pay20, x_k, rstd_k]; rfl

theorem dn_k (b : Fin 4) (t : Fin 8192) (h : Fin 8) (j : Fin 128) :
    k0_pay18 (k0_pay4 p f) (k0_pay5 p f) y s (ix4 b t h j) = unrot (yK y s b t h) (ang p f b t) j := by
  pointwise [k0_pay18, k0_pay5, k0_pay3, k0_pay4]
  exact unrot_halves (yK y s b t h) (ang p f b t) j

/-- k's gradient at a row and a lane. -/
theorem outK_at (b : Fin 4) (t : Fin 8192) (h : Fin 8) (j : Fin 128) :
    k0_pay1 (k0_pay2 n) (k0_pay18 (k0_pay4 p f) (k0_pay5 p f) y s) (k0_pay19 x xs) (k0_pay20 x xs) (k0_pay22 g) (ix4 b t h j)
      = keep t (n (ix1 b)) (dx (unrot (yK y s b t h) (ang p f b t)) (fun k => g (ix1 k)) (xK x xs b t h) j) := by
  rw [← valid_at]
  pointwise [k0_pay1, k0_pay22, rstd_k, xhat_k, dn_k]
  rfl

/-- The gradient of k's gains. -/
theorem sumK_at (j : Fin 128) :
    k0_pay21 (k0_pay2 n) (k0_pay4 p f) (k0_pay5 p f) y s x xs (ix1 j)
      = ∑ b : Fin 4, ∑ t : Fin 8192, ∑ h : Fin 8,
        keep t (n (ix1 b)) (dg (unrot (yK y s b t h) (ang p f b t)) (xK x xs b t h) j) := by
  simp only [← valid_at]
  refine (reduceAdd_front _ _ j).trans ?_
  pointwise [xhat_k, dn_k]
  rfl

end Keys
end Cert.ReferenceIdeal.Value
-- ==== Proof.KIn.lean ====
module

public import proofs.«01_k».proof.Proof.KPure
public import proofs.«01_k».proof.Proof.RPure
public import proofs.«01_k».proof.Proof.KernelIdealFrame
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
open Idealize.ShloMosaic.Pipeline (Dat Window)
open Cert.KernelIdeal Cert.KernelIdeal.Gen
namespace Cert.KernelIdeal.Run
open Cert.Row

/-! The kernel's input blocks, read as parts of the argument arrays: at a point with a live token, row `r` of the
block is token `s = 64 * block + r` of the point's sequence `b`. -/

variable (m : (ℓ : Loc nD τ sig) → Buf (Elt Ideal) ℓ) (c : Dev nD)

/-- The frequencies, as the host computes them before the call. -/
def inv : Vec Ideal S64 .f32 :=
  Host.powf (broadcastInDim S64 ![] bcast_S_S64 (constant (F := Ideal) S_ FTy.f32 1232348160#32))
      (Host.negf (Host.divf (mulf (broadcastInDim S64 ![] bcast_S_S64 (constant S_ FTy.f32 1073741824#32))
            (sitofp FTy.f32 (iotaInDim S64 32 0)))
          (broadcastInDim S64 ![] bcast_S_S64 (constant S_ FTy.f32 1124073472#32))))

theorem V_inv : V m c main_v7 = inv := by entry_read; rfl

/-- The frequencies for every lane: the 64 of them twice. -/
theorem V_freq (k : Fin 128) : V m c main_v9 (ix2 0 k) = inv (ix1 ⟨(k : ℕ) % 64, Nat.mod_lt _ (by decide)⟩) := by
  have e : V m c main_v9 = broadcastInDim S1x128 ![1] bcast_S128_S1x128_1 (concatenate S128 0 [⟨S64, inv⟩, ⟨S64, inv⟩] concatenates_S64_S64_S128_d0) := by
    entry_read; rfl
  rw [e]
  pointwise
  split
  · exact congrArg (fun q => inv (ix1 q)) (Fin.ext (Nat.mod_eq_of_lt ‹_›).symm)
  · exact congrArg (fun q => inv (ix1 q)) (Fin.ext (by show (k : ℕ) - 64 = (k : ℕ) % 64; omega))

theorem V_gq (k : Fin 128) : V m c main_v10 (ix2 0 k) = m ((c : Thread nD τ).loc main_arg8) (ix1 k) := by
  entry_read; pointwise
theorem V_gk (k : Fin 128) : V m c main_v11 (ix2 0 k) = m ((c : Thread nD τ).loc main_arg9) (ix1 k) := by
  entry_read; pointwise
theorem V_pos (b : Fin 4) (s : Fin 8192) : V m c main_v12 (ix3 b s 0) = m ((c : Thread nD τ).loc main_arg10) (ix2 b s) := by
  entry_read; pointwise

/-- A point's coordinates from its number. -/
theorem pt_val (t : Fin (C m).N) : (pt m t 0).val = t.val / 128 ∧ (pt m t 1).val = t.val % 128 :=
  (by decide +kernel : ∀ t : Fin grid0.N, (grid0.coords t 0).val = t.val / 128 ∧ (grid0.coords t 1).val = t.val % 128) t

theorem block_toNat (i : grid0.Coords) : (BitVec.ofNat 32 (i 1).val).toNat = (i 1).val := by
  have hi : (i 1).val < 128 := (i 1).isLt
  rw [BitVec.toNat_ofNat, Nat.mod_eq_of_lt (by omega)]

/-- The length a point works with is its sequence's. -/
theorem lenAt_eq (t : Fin (C m).N) (b : Fin 4) (hb : b.val = (pt m t 0).val) : lenAt m t = m ((c : Thread nD τ).loc main_arg11) (ix1 b) := by
  obtain rfl := one_dev c
  refine congrArg (m (((0 : Dev nD) : Thread nD τ).loc main_arg11)) ?_
  funext a
  apply Fin.ext
  fin_cases a
  show (BitVec.ofNat 32 (pt m t 0).val).toNat + 1 * 0 = b.val
  have := batch_toNat (pt m t)
  omega

section Index
variable {A B : ℕ} {α : Type}

/-- Arrays of four axes, and of three, agree at indices with equal coordinates. -/
theorem at4 (X : (⟨4, ![4, 8192, A, B]⟩ : Shape).Idx → α) (e : (⟨4, ![4, 8192, A, B]⟩ : Shape).Idx) (b : Fin 4) (s : Fin 8192) (h : Fin A) (j : Fin B)
    (h0 : (e 0).val = b.val) (h1 : (e 1).val = s.val) (h2 : (e 2).val = h.val) (h3 : (e 3).val = j.val) : X e = X (ix4 b s h j) := by
  refine congrArg X ?_
  funext a
  apply Fin.ext
  fin_cases a
  exacts [h0, h1, h2, h3]
theorem at3 (X : (⟨3, ![4, 8192, A]⟩ : Shape).Idx → α) (e : (⟨3, ![4, 8192, A]⟩ : Shape).Idx) (b : Fin 4) (s : Fin 8192) (h : Fin A)
    (h0 : (e 0).val = b.val) (h1 : (e 1).val = s.val) (h2 : (e 2).val = h.val) : X e = X (ix3 b s h) := by
  refine congrArg X ?_
  funext a
  apply Fin.ext
  fin_cases a
  exacts [h0, h1, h2]
end Index

section Blocks
variable (t : Fin (C m).N) (b : Fin 4) (s : Fin 8192) (r : Fin 64) (hb : b.val = (pt m t 0).val)
  (hs : s.val = (live (pt m t) (lenAt m t)).toNat * 64 + r.val)
include hb hs

theorem off_batch : (BitVec.ofNat 32 (pt m t 0).val).toNat * 1 + 0 = b.val := by have := batch_toNat (pt m t); omega
theorem off_token : (live (pt m t) (lenAt m t)).toNat * 64 + r.val = s.val := by omega
omit hb hs in
theorem off_zero (n k : ℕ) : 0 * n + k = k := by omega

/-! The four arrays of codes, -/

theorem iblk_0 (h : Fin 40) (j : Fin 128) : iblk m c 0 t (ix4 0 r h j) = m ((c : Thread nD τ).loc main_arg0) (ix4 b s h j) := by
  have e : ((C m).win 0).index t = ![(BitVec.ofNat 32 (pt m t 0).val).toNat, (live (pt m t) (lenAt m t)).toNat, 0, 0] := rfl
  have p := Window.rect_emb_val ((C m).win 0) t (ix4 0 r h j)
  rw [e] at p
  exact (at4 (V m c main_arg0) ((((C m).win 0).blk t).view.emb (ix4 0 r h j)) b s h j ((p (0 : Fin 4)).trans (off_batch m t b s r hb hs))
    ((p (1 : Fin 4)).trans (off_token m t b s r hb hs)) ((p (2 : Fin 4)).trans (off_zero 40 h)) ((p (3 : Fin 4)).trans (off_zero 128 j))).trans (congrFun (V_kept m c main_arg0 (by decide)) _)
theorem iblk_2 (h : Fin 8) (j : Fin 128) : iblk m c 2 t (ix4 0 r h j) = m ((c : Thread nD τ).loc main_arg2) (ix4 b s h j) := by
  have e : ((C m).win 2).index t = ![(BitVec.ofNat 32 (pt m t 0).val).toNat, (live (pt m t) (lenAt m t)).toNat, 0, 0] := rfl
  have p := Window.rect_emb_val ((C m).win 2) t (ix4 0 r h j)
  rw [e] at p
  exact (at4 (V m c main_arg2) ((((C m).win 2).blk t).view.emb (ix4 0 r h j)) b s h j ((p (0 : Fin 4)).trans (off_batch m t b s r hb hs))
    ((p (1 : Fin 4)).trans (off_token m t b s r hb hs)) ((p (2 : Fin 4)).trans (off_zero 8 h)) ((p (3 : Fin 4)).trans (off_zero 128 j))).trans (congrFun (V_kept m c main_arg2 (by decide)) _)
theorem iblk_4 (h : Fin 40) (j : Fin 128) : iblk m c 4 t (ix4 0 r h j) = m ((c : Thread nD τ).loc main_arg4) (ix4 b s h j) := by
  have e : ((C m).win 4).index t = ![(BitVec.ofNat 32 (pt m t 0).val).toNat, (live (pt m t) (lenAt m t)).toNat, 0, 0] := rfl
  have p := Window.rect_emb_val ((C m).win 4) t (ix4 0 r h j)
  rw [e] at p
  exact (at4 (V m c main_arg4) ((((C m).win 4).blk t).view.emb (ix4 0 r h j)) b s h j ((p (0 : Fin 4)).trans (off_batch m t b s r hb hs))
    ((p (1 : Fin 4)).trans (off_token m t b s r hb hs)) ((p (2 : Fin 4)).trans (off_zero 40 h)) ((p (3 : Fin 4)).trans (off_zero 128 j))).trans (congrFun (V_kept m c main_arg4 (by decide)) _)
theorem iblk_6 (h : Fin 8) (j : Fin 128) : iblk m c 6 t (ix4 0 r h j) = m ((c : Thread nD τ).loc main_arg6) (ix4 b s h j) := by
  have e : ((C m).win 6).index t = ![(BitVec.ofNat 32 (pt m t 0).val).toNat, (live (pt m t) (lenAt m t)).toNat, 0, 0] := rfl
  have p := Window.rect_emb_val ((C m).win 6) t (ix4 0 r h j)
  rw [e] at p
  exact (at4 (V m c main_arg6) ((((C m).win 6).blk t).view.emb (ix4 0 r h j)) b s h j ((p (0 : Fin 4)).trans (off_batch m t b s r hb hs))
    ((p (1 : Fin 4)).trans (off_token m t b s r hb hs)) ((p (2 : Fin 4)).trans (off_zero 8 h)) ((p (3 : Fin 4)).trans (off_zero 128 j))).trans (congrFun (V_kept m c main_arg6 (by decide)) _)

/-! the four of scales, -/

theorem iblk_1 (h : Fin 40) : iblk m c 1 t (ix3 0 r h) = m ((c : Thread nD τ).loc main_arg1) (ix3 b s h) := by
  have e : ((C m).win 1).index t = ![(BitVec.ofNat 32 (pt m t 0).val).toNat, (live (pt m t) (lenAt m t)).toNat, 0] := rfl
  have p := Window.rect_emb_val ((C m).win 1) t (ix3 0 r h)
  rw [e] at p
  exact (at3 (V m c main_arg1) ((((C m).win 1).blk t).view.emb (ix3 0 r h)) b s h ((p (0 : Fin 3)).trans (off_batch m t b s r hb hs))
    ((p (1 : Fin 3)).trans (off_token m t b s r hb hs)) ((p (2 : Fin 3)).trans (off_zero 40 h))).trans (congrFun (V_kept m c main_arg1 (by decide)) _)
theorem iblk_3 (h : Fin 8) : iblk m c 3 t (ix3 0 r h) = m ((c : Thread nD τ).loc main_arg3) (ix3 b s h) := by
  have e : ((C m).win 3).index t = ![(BitVec.ofNat 32 (pt m t 0).val).toNat, (live (pt m t) (lenAt m t)).toNat, 0] := rfl
  have p := Window.rect_emb_val ((C m).win 3) t (ix3 0 r h)
  rw [e] at p
  exact (at3 (V m c main_arg3) ((((C m).win 3).blk t).view.emb (ix3 0 r h)) b s h ((p (0 : Fin 3)).trans (off_batch m t b s r hb hs))
    ((p (1 : Fin 3)).trans (off_token m t b s r hb hs)) ((p (2 : Fin 3)).trans (off_zero 8 h))).trans (congrFun (V_kept m c main_arg3 (by decide)) _)
theorem iblk_5 (h : Fin 40) : iblk m c 5 t (ix3 0 r h) = m ((c : Thread nD τ).loc main_arg5) (ix3 b s h) := by
  have e : ((C m).win 5).index t = ![(BitVec.ofNat 32 (pt m t 0).val).toNat, (live (pt m t) (lenAt m t)).toNat, 0] := rfl
  have p := Window.rect_emb_val ((C m).win 5) t (ix3 0 r h)
  rw [e] at p
  exact (at3 (V m c main_arg5) ((((C m).win 5).blk t).view.emb (ix3 0 r h)) b s h ((p (0 : Fin 3)).trans (off_batch m t b s r hb hs))
    ((p (1 : Fin 3)).trans (off_token m t b s r hb hs)) ((p (2 : Fin 3)).trans (off_zero 40 h))).trans (congrFun (V_kept m c main_arg5 (by decide)) _)
theorem iblk_7 (h : Fin 8) : iblk m c 7 t (ix3 0 r h) = m ((c : Thread nD τ).loc main_arg7) (ix3 b s h) := by
  have e : ((C m).win 7).index t = ![(BitVec.ofNat 32 (pt m t 0).val).toNat, (live (pt m t) (lenAt m t)).toNat, 0] := rfl
  have p := Window.rect_emb_val ((C m).win 7) t (ix3 0 r h)
  rw [e] at p
  exact (at3 (V m c main_arg7) ((((C m).win 7).blk t).view.emb (ix3 0 r h)) b s h ((p (0 : Fin 3)).trans (off_batch m t b s r hb hs))
    ((p (1 : Fin 3)).trans (off_token m t b s r hb hs)) ((p (2 : Fin 3)).trans (off_zero 8 h))).trans (congrFun (V_kept m c main_arg7 (by decide)) _)

/-! the positions; -/

theorem iblk_10 : iblk m c 10 t (ix3 0 r 0) = m ((c : Thread nD τ).loc main_arg10) (ix2 b s) := by
  have e : ((C m).win 10).index t = ![(BitVec.ofNat 32 (pt m t 0).val).toNat, (live (pt m t) (lenAt m t)).toNat, 0] := rfl
  have p := Window.rect_emb_val ((C m).win 10) t (ix3 0 r 0)
  rw [e] at p
  exact (at3 (V m c main_v12) ((((C m).win 10).blk t).view.emb (ix3 0 r 0)) b s 0 ((p (0 : Fin 3)).trans (off_batch m t b s r hb hs))
    ((p (1 : Fin 3)).trans (off_token m t b s r hb hs)) ((p (2 : Fin 3)).trans (off_zero 1 0))).trans (V_pos m c b s)

/-! the gains and the frequencies are the whole arrays at every point. -/

omit hb hs
theorem at_lane {α : Type} (X : S1x128.Idx → α) (e : S1x128.Idx) (k : Fin 128) (h : (e 1).val = k.val) : X e = X (ix2 0 k) := by
  refine congrArg X ?_
  funext a
  apply Fin.ext
  fin_cases a
  exacts [Nat.lt_one_iff.mp (e 0).isLt, h]
theorem iblk_8 (k : Fin 128) : iblk m c 8 t (ix2 0 k) = m ((c : Thread nD τ).loc main_arg8) (ix1 k) := by
  have p := Window.rect_emb_val ((C m).win 8) t (ix2 0 k) (1 : Fin 2)
  exact (at_lane (V m c main_v10) ((((C m).win 8).blk t).view.emb (ix2 0 k)) k (p.trans (off_zero 128 k))).trans (V_gq m c k)
theorem iblk_9 (k : Fin 128) : iblk m c 9 t (ix2 0 k) = m ((c : Thread nD τ).loc main_arg9) (ix1 k) := by
  have p := Window.rect_emb_val ((C m).win 9) t (ix2 0 k) (1 : Fin 2)
  exact (at_lane (V m c main_v11) ((((C m).win 9).blk t).view.emb (ix2 0 k)) k (p.trans (off_zero 128 k))).trans (V_gk m c k)
theorem iblk_11 (k : Fin 128) : iblk m c 11 t (ix2 0 k) = inv (ix1 ⟨(k : ℕ) % 64, Nat.mod_lt _ (by decide)⟩) := by
  have p := Window.rect_emb_val ((C m).win 11) t (ix2 0 k) (1 : Fin 2)
  exact (at_lane (V m c main_v9) ((((C m).win 11).blk t).view.emb (ix2 0 k)) k (p.trans (off_zero 128 k))).trans (V_freq m c k)

/-- The frequencies repeat after 64 lanes. -/
theorem freq_repeats (k : Fin 128) : (iblk m c 11 t : Vec Ideal S1x128 .f32) (ix2 0 k) = (iblk m c 11 t : Vec Ideal S1x128 .f32) (ix2 0 ⟨(k : ℕ) % 64, Nat.lt_of_lt_of_le (Nat.mod_lt _ (by decide)) (by decide)⟩) := by
  refine (iblk_11 m c t k).trans (Eq.trans ?_ (iblk_11 m c t _).symm)
  exact congrArg (fun q => inv (ix1 q)) (Fin.ext (Nat.mod_mod _ _).symm)

include hb hs
/-! So the rows and the angles the body works with are those of the arrays. -/

theorem ang_eq : ang (iblk m c 10 t) (iblk m c 11 t) r = ReferenceIdeal.Value.ang (m ((c : Thread nD τ).loc main_arg10)) inv b s := by
  funext k
  refine congrArg₂ (fun (p : BitVec 32) (f : EReal) => (FloatOps.sitofp FTy.f32 p : Ideal .f32) * f) (iblk_10 m c t b s r hb hs) ((iblk_11 m c t _).trans ?_)
  exact congrArg (fun q => inv (ix1 q)) (Fin.ext (Nat.mod_eq_of_lt k.isLt))
theorem yQ_eq (h : Fin 40) : yQ (iblk m c 0 t) (iblk m c 1 t) r h = ReferenceIdeal.Value.yQ (m ((c : Thread nD τ).loc main_arg0)) (m ((c : Thread nD τ).loc main_arg1)) b s h :=
  funext fun k => congrArg₂ (fun x y : EReal => x * y) (iblk_0 m c t b s r hb hs h k) (iblk_1 m c t b s r hb hs h)
theorem xQ_eq (h : Fin 40) : xQ (iblk m c 4 t) (iblk m c 5 t) r h = ReferenceIdeal.Value.xQ (m ((c : Thread nD τ).loc main_arg4)) (m ((c : Thread nD τ).loc main_arg5)) b s h :=
  funext fun k => congrArg₂ (fun x y : EReal => x * y) (iblk_4 m c t b s r hb hs h k) (iblk_5 m c t b s r hb hs h)
theorem yK_eq (h : Fin 8) : yK (iblk m c 2 t) (iblk m c 3 t) r h = ReferenceIdeal.Value.yK (m ((c : Thread nD τ).loc main_arg2)) (m ((c : Thread nD τ).loc main_arg3)) b s h :=
  funext fun k => congrArg₂ (fun x y : EReal => x * y) (iblk_2 m c t b s r hb hs h k) (iblk_3 m c t b s r hb hs h)
theorem xK_eq (h : Fin 8) : xK (iblk m c 6 t) (iblk m c 7 t) r h = ReferenceIdeal.Value.xK (m ((c : Thread nD τ).loc main_arg6)) (m ((c : Thread nD τ).loc main_arg7)) b s h :=
  funext fun k => congrArg₂ (fun x y : EReal => x * y) (iblk_6 m c t b s r hb hs h k) (iblk_7 m c t b s r hb hs h)
end Blocks
end Cert.KernelIdeal.Run
-- ==== Proof.KArr.lean ====
module

public import proofs.«01_k».proof.Proof.KIn

@[expose] public section

set_option maxRecDepth 16384
noncomputable section
open Idealize.ShloMosaic Idealize.ShloMosaic.TcCoe Idealize.SL.Sem
open Idealize.ShloMosaic.Pipeline (Dat Window)
open Cert.KernelIdeal Cert.KernelIdeal.Gen
namespace Cert.KernelIdeal.Run
open Cert.Row

/-! What the kernel's region leaves in its four result arrays, as formulas in the argument arrays. -/

/-- A token past the sequence contributes zero, one inside it its value. -/
theorem keep_eq (s : ℕ) (hs : s < 8192) (n : BitVec 32) (v : EReal) : keep s n v = if (s : Int) < n.toInt then v else 0 := by
  have e : (BitVec.ofNat 32 s).toInt = s := by rw [BitVec.toInt_ofNat', Int.bmod_eq_of_le] <;> omega
  show (if IntOp.cmpi .slt (BitVec.ofNat 32 s) n = 1#1 then v else 0) = _
  show (if BitVec.ofBool ((BitVec.ofNat 32 s).slt n) = 1#1 then v else 0) = _
  unfold BitVec.slt
  rw [e]
  by_cases h : (s : Int) < n.toInt
  · rw [decide_eq_true h, if_pos h]; rfl
  · rw [decide_eq_false h, if_neg h]; rfl

/-- A point has a live token when its first one is inside the sequence. -/
theorem live_iff (i : grid0.Coords) (n : BitVec 32) : k0_cond2 i n = 1#1 ↔ 64 * ((i 1).val : Int) < n.toInt := by
  have hi : (i 1).val < 128 := (i 1).isLt
  have e : (Scalar.muli (BitVec.ofNat 32 (i 1).val) 64#32).toInt = 64 * ((i 1).val : Int) := by
    show (BitVec.ofNat 32 (i 1).val * 64#32).toInt = _
    rw [BitVec.toInt_mul, block_toInt, show (64#32 : BitVec 32).toInt = 64 from rfl, Int.bmod_eq_of_le] <;> omega
  rw [cond2_iff]
  unfold BitVec.slt
  rw [e, decide_eq_true_iff]

variable (m : (ℓ : Loc nD τ sig) → Buf (Elt Ideal) ℓ) (c : Dev nD)
  (hn : ∀ b : Fin 4, (show BitVec 32 from m ((c : Thread nD τ).loc main_arg11) (ix1 b)).toInt ≤ 2147483584)

/-- The sequence lengths. -/
abbrev lens (b : Fin 4) : BitVec 32 := m ((c : Thread nD τ).loc main_arg11) (ix1 b)

/-- q's gradient at a token, a head and a lane, -/
def gradQ (b : Fin 4) (s : Fin 8192) (h : Fin 40) (j : Fin 128) : EReal :=
  keep s (lens m c b) (dx (unrot (ReferenceIdeal.Value.yQ (m ((c : Thread nD τ).loc main_arg0)) (m ((c : Thread nD τ).loc main_arg1)) b s h)
      (ReferenceIdeal.Value.ang (m ((c : Thread nD τ).loc main_arg10)) inv b s)) (fun k => m ((c : Thread nD τ).loc main_arg8) (ix1 k))
    (ReferenceIdeal.Value.xQ (m ((c : Thread nD τ).loc main_arg4)) (m ((c : Thread nD τ).loc main_arg5)) b s h) j)
/-- its share of the gradient of q's gains; -/
def gainQ (b : Fin 4) (s : Fin 8192) (h : Fin 40) (j : Fin 128) : EReal :=
  keep s (lens m c b) (dg (unrot (ReferenceIdeal.Value.yQ (m ((c : Thread nD τ).loc main_arg0)) (m ((c : Thread nD τ).loc main_arg1)) b s h)
      (ReferenceIdeal.Value.ang (m ((c : Thread nD τ).loc main_arg10)) inv b s))
    (ReferenceIdeal.Value.xQ (m ((c : Thread nD τ).loc main_arg4)) (m ((c : Thread nD τ).loc main_arg5)) b s h) j)
/-- the same for k. -/
def gradK (b : Fin 4) (s : Fin 8192) (h : Fin 8) (j : Fin 128) : EReal :=
  keep s (lens m c b) (dx (unrot (ReferenceIdeal.Value.yK (m ((c : Thread nD τ).loc main_arg2)) (m ((c : Thread nD τ).loc main_arg3)) b s h)
      (ReferenceIdeal.Value.ang (m ((c : Thread nD τ).loc main_arg10)) inv b s)) (fun k => m ((c : Thread nD τ).loc main_arg9) (ix1 k))
    (ReferenceIdeal.Value.xK (m ((c : Thread nD τ).loc main_arg6)) (m ((c : Thread nD τ).loc main_arg7)) b s h) j)
def gainK (b : Fin 4) (s : Fin 8192) (h : Fin 8) (j : Fin 128) : EReal :=
  keep s (lens m c b) (dg (unrot (ReferenceIdeal.Value.yK (m ((c : Thread nD τ).loc main_arg2)) (m ((c : Thread nD τ).loc main_arg3)) b s h)
      (ReferenceIdeal.Value.ang (m ((c : Thread nD τ).loc main_arg10)) inv b s))
    (ReferenceIdeal.Value.xK (m ((c : Thread nD τ).loc main_arg6)) (m ((c : Thread nD τ).loc main_arg7)) b s h) j)

section Point
variable (t : Fin (C m).N) (b : Fin 4) (hb : b.val = (pt m t 0).val)

include hn hb in
/-- At a point with a live token the input block is the point's own. -/
theorem token_eq (hl : k0_cond2 (pt m t) (lenAt m t) = 1#1) (s : Fin 8192) (r : Fin 64) (hs : s.val = (pt m t 1).val * 64 + r.val) :
    s.val = (live (pt m t) (lenAt m t)).toNat * 64 + r.val := by
  rw [live_eq _ _ (by rw [lenAt_eq m c t b hb]; exact hn b) ((live_iff _ _).mp hl), hs]

include hb in
/-- At a point with none every token is past the sequence. -/
theorem keep_dead (hl : ¬k0_cond2 (pt m t) (lenAt m t) = 1#1) (s : Fin 8192) (r : Fin 64) (hs : s.val = (pt m t 1).val * 64 + r.val) (v : EReal) :
    keep s (lens m c b) v = 0 := by
  rw [live_iff, lenAt_eq m c t b hb] at hl
  rw [keep_eq _ s.isLt]
  exact if_neg fun h => hl (lt_of_le_of_lt (by omega) h)

variable (s : Fin 8192) (r : Fin 64) (hs : s.val = (pt m t 1).val * 64 + r.val)

include hn hb hs in
theorem resQ_at (h : Fin 40) (j : Fin 128) : resQ m c t (ix4 0 r h j) = gradQ m c b s h j := by
  by_cases hl : k0_cond2 (pt m t) (lenAt m t) = 1#1
  · have hs' := token_eq m c hn t b hb hl s r hs
    rw [resQ_live m c t hl]
    refine (outQ_at (pt m t) (lenAt m t) (iblk m c 10 t) (iblk m c 11 t) (freq_repeats m c t) (iblk m c 0 t) (iblk m c 1 t) (iblk m c 4 t) (iblk m c 5 t) (iblk m c 8 t) r h j).trans ?_
    rw [yQ_eq m c t b s r hb hs', xQ_eq m c t b s r hb hs', ang_eq m c t b s r hb hs', lenAt_eq m c t b hb, ← hs]
    unfold gradQ
    rw [show (fun k : Fin 128 => iblk m c 8 t (ix2 0 k)) = fun k => m ((c : Thread nD τ).loc main_arg8) (ix1 k) from funext fun k => iblk_8 m c t k]
  · rw [resQ_dead m c t hl]
    exact (show k0_pay4 (F := Ideal) (ix4 0 r h j) = (0 : EReal) by pointwise [k0_pay4]).trans (keep_dead m c t b hb hl s r hs _).symm
include hn hb hs in
theorem resK_at (h : Fin 8) (j : Fin 128) : resK m c t (ix4 0 r h j) = gradK m c b s h j := by
  by_cases hl : k0_cond2 (pt m t) (lenAt m t) = 1#1
  · have hs' := token_eq m c hn t b hb hl s r hs
    rw [resK_live m c t hl]
    refine (outK_at (pt m t) (lenAt m t) (iblk m c 10 t) (iblk m c 11 t) (freq_repeats m c t) (iblk m c 2 t) (iblk m c 3 t) (iblk m c 6 t) (iblk m c 7 t) (iblk m c 9 t) r h j).trans ?_
    rw [yK_eq m c t b s r hb hs', xK_eq m c t b s r hb hs', ang_eq m c t b s r hb hs', lenAt_eq m c t b hb, ← hs]
    unfold gradK
    rw [show (fun k : Fin 128 => iblk m c 9 t (ix2 0 k)) = fun k => m ((c : Thread nD τ).loc main_arg9) (ix1 k) from funext fun k => iblk_9 m c t k]
  · rw [resK_dead m c t hl]
    exact (show k0_pay5 (F := Ideal) (ix4 0 r h j) = (0 : EReal) by pointwise [k0_pay5]).trans (keep_dead m c t b hb hl s r hs _).symm
end Point

theorem flush_12 (t : Fin (C m).N) : ((C m).win 12).flush t = true := by
  rw [Window.flush_eq_flushOf]
  exact (by decide +kernel : ∀ t : Fin grid0.N, Window.flushOf grid0 true cc0_transform_12 t = true) t
theorem flush_13 (t : Fin (C m).N) : ((C m).win 13).flush t = true := by
  rw [Window.flush_eq_flushOf]
  exact (by decide +kernel : ∀ t : Fin grid0.N, Window.flushOf grid0 true cc0_transform_13 t = true) t

/-- Row `r` of the block written at point `t` is token `s` of sequence `b`. -/
theorem emb_12 (t : Fin (C m).N) (b : Fin 4) (hb : b.val = (pt m t 0).val) (s : Fin 8192) (r : Fin 64) (hs : s.val = (pt m t 1).val * 64 + r.val)
    (h : Fin 40) (j : Fin 128) : (((C m).win 12).blk t).view.emb (ix4 0 r h j) = ix4 b s h j := by
  have e : ((C m).win 12).index t = ![(BitVec.ofNat 32 (pt m t 0).val).toNat, (BitVec.ofNat 32 (pt m t 1).val).toNat, 0, 0] := rfl
  have p := Window.rect_emb_val ((C m).win 12) t (ix4 0 r h j)
  rw [e, batch_toNat, block_toNat] at p
  exact at4 id ((((C m).win 12).blk t).view.emb (ix4 0 r h j)) b s h j ((p (0 : Fin 4)).trans (show (pt m t 0).val * 1 + 0 = b.val by omega))
    ((p (1 : Fin 4)).trans hs.symm) ((p (2 : Fin 4)).trans (off_zero 40 h)) ((p (3 : Fin 4)).trans (off_zero 128 j))
theorem emb_13 (t : Fin (C m).N) (b : Fin 4) (hb : b.val = (pt m t 0).val) (s : Fin 8192) (r : Fin 64) (hs : s.val = (pt m t 1).val * 64 + r.val)
    (h : Fin 8) (j : Fin 128) : (((C m).win 13).blk t).view.emb (ix4 0 r h j) = ix4 b s h j := by
  have e : ((C m).win 13).index t = ![(BitVec.ofNat 32 (pt m t 0).val).toNat, (BitVec.ofNat 32 (pt m t 1).val).toNat, 0, 0] := rfl
  have p := Window.rect_emb_val ((C m).win 13) t (ix4 0 r h j)
  rw [e, batch_toNat, block_toNat] at p
  exact at4 id ((((C m).win 13).blk t).view.emb (ix4 0 r h j)) b s h j ((p (0 : Fin 4)).trans (show (pt m t 0).val * 1 + 0 = b.val by omega))
    ((p (1 : Fin 4)).trans hs.symm) ((p (2 : Fin 4)).trans (off_zero 8 h)) ((p (3 : Fin 4)).trans (off_zero 128 j))

/-- The point whose block holds token `s` of sequence `b`. -/
theorem exists_pt (b : Fin 4) (s : Fin 8192) : ∃ t : Fin (C m).N, b.val = (pt m t 0).val ∧ s.val = (pt m t 1).val * 64 + s.val % 64 := by
  have hN : (C m).N = 512 := N_0
  refine ⟨⟨b.val * 128 + s.val / 64, by omega⟩, ?_⟩
  rw [(pt_val m _).1, (pt_val m _).2]
  show b.val = (b.val * 128 + s.val / 64) / 128 ∧ s.val = (b.val * 128 + s.val / 64) % 128 * 64 + s.val % 64
  omega

/-- A token of a point's block, from its row. -/
theorem exists_token (t : Fin (C m).N) (r : Fin 64) : ∃ (b : Fin 4) (s : Fin 8192), b.val = (pt m t 0).val ∧ s.val = (pt m t 1).val * 64 + r.val := by
  have hi : (pt m t 1).val < 128 := (pt m t 1).isLt
  exact ⟨⟨(pt m t 0).val, (pt m t 0).isLt⟩, ⟨(pt m t 1).val * 64 + r.val, by omega⟩, rfl, rfl⟩

include hn in
/-- The array of q's gradient after the region. -/
theorem arr_12 (T : Vec Ideal S4x8192x40x128 .bf16) (hT : ∀ b s h j, T (ix4 b s h j) = gradQ m c b s h j) : (dats m 0 c).arrAt 12 (C m).N = T := by
  have hG : ∀ (t : Fin (C m).N) (y : S1x64x40x128.Idx), resQ m c t y = T ((((C m).win 12).blk t).view.emb y) := by
    intro t y
    idx_vars y
    obtain rfl := Subsingleton.elim y0 0
    obtain ⟨b, s, hb, hs⟩ := exists_token m t y1
    rw [resQ_at m c hn t b hb s y1 hs]
    exact ((congrArg T (emb_12 m t b hb s y1 hs y2 y3)).trans (hT b s y2 y3)).symm
  have hcov : ∀ i : S4x8192x40x128.Idx, ∃ t, ((C m).win 12).flush t = true ∧ i ∈ (((C m).win 12).blk t).view.set := by
    intro i
    idx_vars i
    obtain ⟨t, hb, hs⟩ := exists_pt m i0 i1
    refine ⟨t, flush_12 m t, ?_⟩
    have e := emb_12 m t i0 hb i1 ⟨i1.val % 64, Nat.mod_lt _ (by decide)⟩ hs i2 i3
    exact e ▸ View.emb_mem_set _ _
  exact (dats m 0 c).arrAt_eq_of_emb 12 T (fun t hf y => hG t y) hcov

include hn in
/-- The array of k's gradient after the region. -/
theorem arr_13 (T : Vec Ideal S4x8192x8x128 .bf16) (hT : ∀ b s h j, T (ix4 b s h j) = gradK m c b s h j) : (dats m 0 c).arrAt 13 (C m).N = T := by
  have hG : ∀ (t : Fin (C m).N) (y : S1x64x8x128.Idx), resK m c t y = T ((((C m).win 13).blk t).view.emb y) := by
    intro t y
    idx_vars y
    obtain rfl := Subsingleton.elim y0 0
    obtain ⟨b, s, hb, hs⟩ := exists_token m t y1
    rw [resK_at m c hn t b hb s y1 hs]
    exact ((congrArg T (emb_13 m t b hb s y1 hs y2 y3)).trans (hT b s y2 y3)).symm
  have hcov : ∀ i : S4x8192x8x128.Idx, ∃ t, ((C m).win 13).flush t = true ∧ i ∈ (((C m).win 13).blk t).view.set := by
    intro i
    idx_vars i
    obtain ⟨t, hb, hs⟩ := exists_pt m i0 i1
    refine ⟨t, flush_13 m t, ?_⟩
    have e := emb_13 m t i0 hb i1 ⟨i1.val % 64, Nat.mod_lt _ (by decide)⟩ hs i2 i3
    exact e ▸ View.emb_mem_set _ _
  exact (dats m 0 c).arrAt_eq_of_emb 13 T (fun t hf y => hG t y) hcov
end Cert.KernelIdeal.Run
-- ==== Proof.KSum.lean ====
module

public import proofs.«01_k».proof.Proof.KArr

@[expose] public section

set_option maxRecDepth 16384
noncomputable section
open Idealize.ShloMosaic Idealize.ShloMosaic.TcCoe Idealize.SL.Sem
open Idealize.ShloMosaic.Pipeline (Dat Window)
open Cert.KernelIdeal Cert.KernelIdeal.Gen
namespace Cert.KernelIdeal.Run
open Cert.Row

/-! The gradients of the gains: the two sums the kernel carries from point to point, and the eight rows the host adds
up at the end, are one sum over sequences, tokens and heads. -/

/-- A point's share of row `r` of a sum: over the heads that share the row and the tokens of its block. -/
def share {C : ℕ} (F : Fin 4 → Fin 8192 → Fin (C * 8) → EReal) (r : Fin 8) (t : ℕ) : EReal :=
  ∑ u : Fin C, ∑ q : Fin 64, F ⟨t / 128 % 4, by omega⟩ ⟨t % 128 * 64 + q, by omega⟩ ⟨u * 8 + r, by omega⟩

/-- The rows' sums over all points, added up, are the sum over everything. -/
theorem sum_shares {C : ℕ} (F : Fin 4 → Fin 8192 → Fin (C * 8) → EReal) :
    ∑ r : Fin 8, ∑ t ∈ Finset.range 512, share F r t = ∑ b, ∑ s, ∑ h, F b s h := by
  have e (r : Fin 8) : ∑ t ∈ Finset.range 512, share F r t = ∑ b : Fin 4, ∑ s : Fin 8192, ∑ u : Fin C, F b s ⟨u * 8 + r, by omega⟩ := by
    rw [Finset.sum_range, Fin.sum_univ_tiles 4 128 rfl]
    refine Finset.sum_congr rfl fun b _ => ?_
    rw [Fin.sum_univ_tiles 128 64 rfl]
    refine Finset.sum_congr rfl fun i _ => ?_
    unfold share
    rw [Finset.sum_comm]
    refine Finset.sum_congr rfl fun q _ => Finset.sum_congr rfl fun u _ => ?_
    have h0 : (⟨(b.val * 128 + i.val) / 128 % 4, by omega⟩ : Fin 4) = b := Fin.ext (by show (b.val * 128 + i.val) / 128 % 4 = b.val; omega)
    have h1 : (b.val * 128 + i.val) % 128 = i.val := by omega
    simp only [h0, h1]
  simp only [e]
  rw [Finset.sum_comm]
  refine Finset.sum_congr rfl fun b _ => ?_
  rw [Finset.sum_comm]
  refine Finset.sum_congr rfl fun s _ => ?_
  rw [Finset.sum_comm, Fin.sum_univ_tiles C 8 rfl]

variable (m : (ℓ : Loc nD τ sig) → Buf (Elt Ideal) ℓ) (c : Dev nD)
  (hn : ∀ b : Fin 4, (show BitVec 32 from m ((c : Thread nD τ).loc main_arg11) (ix1 b)).toInt ≤ 2147483584)

/-- A point's sequence and tokens, from its number. -/
theorem point_val (t : Fin (C m).N) : (⟨t.val / 128 % 4, by omega⟩ : Fin 4).val = (pt m t 0).val
    ∧ ∀ q : Fin 64, (⟨t.val % 128 * 64 + q, by omega⟩ : Fin 8192).val = (pt m t 1).val * 64 + q.val := by
  have ht : t.val < 512 := N_0 ▸ t.isLt
  rw [(pt_val m t).1, (pt_val m t).2]
  exact ⟨by show t.val / 128 % 4 = t.val / 128; omega, fun q => rfl⟩

include hn in
/-- The sum for q's gains before point `n`. -/
theorem sumsQ_at (r : Fin 8) (j : Fin 128) (n : ℕ) (h : n ≤ 512) :
    sumsQ m c n (ix2 r j) = ∑ t ∈ Finset.range n, share (C := 5) (fun b s h => gainQ m c b s h j) r t := by
  induction n with
  | zero => exact (show k0_pay1 (F := Ideal) (ix2 r j) = (0 : EReal) by pointwise [k0_pay1]).trans (Finset.sum_range_zero _).symm
  | succ n ih =>
    have hN : (C m).N = 512 := N_0
    obtain ⟨t, rfl⟩ : ∃ t : Fin (C m).N, t.val = n := ⟨⟨n, by omega⟩, rfl⟩
    rw [Finset.sum_range_succ, ← ih (by omega)]
    obtain ⟨hb, hs⟩ := point_val m t
    by_cases hl : k0_cond2 (pt m t) (lenAt m t) = 1#1
    · rw [sumsQ_live m c t hl]
      refine (sumQ_at (pt m t) (lenAt m t) (iblk m c 10 t) (iblk m c 11 t) (freq_repeats m c t) (iblk m c 0 t) (iblk m c 1 t) (iblk m c 4 t) (iblk m c 5 t) _ r j).trans ?_
      refine congrArg (_ + ·) (Finset.sum_congr rfl fun u _ => Finset.sum_congr rfl fun q _ => ?_)
      have hs' := token_eq m c hn t _ hb hl _ q (hs q)
      rw [yQ_eq m c t _ _ q hb hs', xQ_eq m c t _ _ q hb hs', ang_eq m c t _ _ q hb hs', lenAt_eq m c t _ hb, ← hs q]
      rfl
    · rw [sumsQ_dead m c t hl]
      refine (add_zero _).symm.trans (congrArg (_ + ·) (Eq.symm ?_))
      exact Finset.sum_eq_zero fun u _ => Finset.sum_eq_zero fun q _ => keep_dead m c t _ hb hl _ q (hs q) _
include hn in
/-- The sum for k's gains before point `n`. -/
theorem sumsK_at (r : Fin 8) (j : Fin 128) (n : ℕ) (h : n ≤ 512) :
    sumsK m c n (ix2 r j) = ∑ t ∈ Finset.range n, share (C := 1) (fun b s h => gainK m c b s h j) r t := by
  induction n with
  | zero => exact (show k0_pay2 (F := Ideal) (ix2 r j) = (0 : EReal) by pointwise [k0_pay2]).trans (Finset.sum_range_zero _).symm
  | succ n ih =>
    have hN : (C m).N = 512 := N_0
    obtain ⟨t, rfl⟩ : ∃ t : Fin (C m).N, t.val = n := ⟨⟨n, by omega⟩, rfl⟩
    rw [Finset.sum_range_succ, ← ih (by omega)]
    obtain ⟨hb, hs⟩ := point_val m t
    by_cases hl : k0_cond2 (pt m t) (lenAt m t) = 1#1
    · rw [sumsK_live m c t hl]
      refine (sumK_at (pt m t) (lenAt m t) (iblk m c 10 t) (iblk m c 11 t) (freq_repeats m c t) (iblk m c 2 t) (iblk m c 3 t) (iblk m c 6 t) (iblk m c 7 t) _ r j).trans ?_
      refine congrArg (_ + ·) (Finset.sum_congr rfl fun u _ => Finset.sum_congr rfl fun q _ => ?_)
      have hs' := token_eq m c hn t _ hb hl _ q (hs q)
      rw [yK_eq m c t _ _ q hb hs', xK_eq m c t _ _ q hb hs', ang_eq m c t _ _ q hb hs', lenAt_eq m c t _ hb, ← hs q]
      rfl
    · rw [sumsK_dead m c t hl]
      refine (add_zero _).symm.trans (congrArg (_ + ·) (Eq.symm ?_))
      exact Finset.sum_eq_zero fun u _ => Finset.sum_eq_zero fun q _ => keep_dead m c t _ hb hl _ q (hs q) _

/-- The sums' arrays after the region: written once, after the last point. -/
theorem arr_14 : (dats m 0 c).arrAt 14 (C m).N = sumsQ m c 512 := by
  have hN : (C m).N = 512 := N_0
  refine (dats m 0 c).arrAt_eq_of_after_last 14 ⟨511, by omega⟩ ⟨(flush_14 m _).mpr rfl, fun t h => Fin.ext ?_, fun a => ⟨?_, ?_⟩⟩ (sumsQ m c 512) fun j => ?_
  · have := (flush_14 m t).mp h
    have := t.isLt
    show t.val = 511
    omega
  · match a with
    | ⟨0, _⟩ => rfl
    | ⟨1, _⟩ => rfl
  · match a with
    | ⟨0, _⟩ => rfl
    | ⟨1, _⟩ => rfl
  · rfl
theorem arr_15 : (dats m 0 c).arrAt 15 (C m).N = sumsK m c 512 := by
  have hN : (C m).N = 512 := N_0
  refine (dats m 0 c).arrAt_eq_of_after_last 15 ⟨511, by omega⟩ ⟨(flush_15 m _).mpr rfl, fun t h => Fin.ext ?_, fun a => ⟨?_, ?_⟩⟩ (sumsK m c 512) fun j => ?_
  · have := (flush_15 m t).mp h
    have := t.isLt
    show t.val = 511
    omega
  · match a with
    | ⟨0, _⟩ => rfl
    | ⟨1, _⟩ => rfl
  · match a with
    | ⟨0, _⟩ => rfl
    | ⟨1, _⟩ => rfl
  · rfl

/-- After the region the host adds up the eight rows of each sum. -/
theorem tail_v14 (W : Valuation τ sig (Elt Ideal)) : StableHlo.after hostOps1 W (Proc.devRef .tc main_v14)
    = Host.reduceAdd (F := Ideal) (φ := .f32) (W (Proc.devRef .tc main_v13_2)) (constant S_ .f32 0#32) reducesTo_S8x128_S128_d0 h_S_ := by
  entry_read; rfl
theorem tail_v15 (W : Valuation τ sig (Elt Ideal)) : StableHlo.after hostOps1 W (Proc.devRef .tc main_v15)
    = Host.reduceAdd (F := Ideal) (φ := .f32) (W (Proc.devRef .tc main_v13_3)) (constant S_ .f32 0#32) reducesTo_S8x128_S128_d0 h_S_ := by
  entry_read; rfl

theorem Vend_v14 : Vend m c main_v14 = Host.reduceAdd (F := Ideal) (φ := .f32) (sumsQ m c 512) (constant S_ .f32 0#32) reducesTo_S8x128_S128_d0 h_S_ := by
  refine (tail_v14 _).trans ?_
  refine congrArg (fun X => Host.reduceAdd (F := Ideal) (φ := .f32) X (constant S_ .f32 0#32) reducesTo_S8x128_S128_d0 h_S_) ?_
  exact (Pipeline.withArrays_arr spec0 (by decide) c (V₀ m c) (fun w => (dats m 0 c).arrAt w (C m).N) 14).trans (arr_14 m c)
theorem Vend_v15 : Vend m c main_v15 = Host.reduceAdd (F := Ideal) (φ := .f32) (sumsK m c 512) (constant S_ .f32 0#32) reducesTo_S8x128_S128_d0 h_S_ := by
  refine (tail_v15 _).trans ?_
  refine congrArg (fun X => Host.reduceAdd (F := Ideal) (φ := .f32) X (constant S_ .f32 0#32) reducesTo_S8x128_S128_d0 h_S_) ?_
  exact (Pipeline.withArrays_arr spec0 (by decide) c (V₀ m c) (fun w => (dats m 0 c).arrAt w (C m).N) 15).trans (arr_15 m c)

theorem Vend_v13_0 : Vend m c main_v13_0 = (dats m 0 c).arrAt 12 (C m).N := by
  unfold Vend Pipeline.afterTail
  rw [StableHlo.after_of_forall_not_mem (b := Proc.devRef .tc main_v13_0) _ _ (List.forall_iff_forall_mem.mp (by
    simp only [hostOps1, List.flatten_cons, List.flatten_nil, List.append_nil, List.Forall, StableHlo.nullary_writes, StableHlo.binary_writes, Finset.mem_singleton]
    repeat' apply And.intro
    all_goals exact StableHlo.devRef_ne_of_ne (by decide)))]
  exact Pipeline.withArrays_arr spec0 (by decide) c (V₀ m c) (fun w => (dats m 0 c).arrAt w (C m).N) 12
theorem Vend_v13_1 : Vend m c main_v13_1 = (dats m 0 c).arrAt 13 (C m).N := by
  unfold Vend Pipeline.afterTail
  rw [StableHlo.after_of_forall_not_mem (b := Proc.devRef .tc main_v13_1) _ _ (List.forall_iff_forall_mem.mp (by
    simp only [hostOps1, List.flatten_cons, List.flatten_nil, List.append_nil, List.Forall, StableHlo.nullary_writes, StableHlo.binary_writes, Finset.mem_singleton]
    repeat' apply And.intro
    all_goals exact StableHlo.devRef_ne_of_ne (by decide)))]
  exact Pipeline.withArrays_arr spec0 (by decide) c (V₀ m c) (fun w => (dats m 0 c).arrAt w (C m).N) 13

include hn in
/-- The gradient of q's gains. -/
theorem gains_q (j : Fin 128) : Vend m c main_v14 (ix1 j) = ∑ b : Fin 4, ∑ s : Fin 8192, ∑ h : Fin 40, gainQ m c b s h j := by
  rw [Vend_v14]
  pointwise
  simp only [sumsQ_at m c hn _ _ 512 le_rfl]
  exact sum_shares (C := 5) fun b s h => gainQ m c b s h j

include hn in
/-- The gradient of k's gains. -/
theorem gains_k (j : Fin 128) : Vend m c main_v15 (ix1 j) = ∑ b : Fin 4, ∑ s : Fin 8192, ∑ h : Fin 8, gainK m c b s h j := by
  rw [Vend_v15]
  pointwise
  simp only [sumsK_at m c hn _ _ 512 le_rfl]
  exact sum_shares (C := 1) fun b s h => gainK m c b s h j
end Cert.KernelIdeal.Run
-- ==== Proof.RArr.lean ====
module

public import proofs.«01_k».proof.Proof.RPure
public import Idealize.ShloMosaic.Lib.Pipeline.ValueKit
public import Idealize.ShloMosaic.Lib.Claim

@[expose] public section

set_option maxRecDepth 16384
noncomputable section
open Idealize.ShloMosaic Idealize.ShloMosaic.TcCoe Idealize.SL.Sem
open Idealize.ShloMosaic.Pipeline (Dat)
open Cert.ReferenceIdeal Cert.ReferenceIdeal.Gen
namespace Cert.ReferenceIdeal.Value
open Cert.Row

/-! The reference's four results as arrays: its one grid point stages every array whole. -/

variable (m : (ℓ : Loc nD τ sig) → Buf (Elt Ideal) ℓ) (c : Dev nD)

/-- The frequencies, as the host computes them before the call. -/
theorem freq_eq : V m c main_v7 = Host.powf (broadcastInDim S64 ![] bcast_S_S64 (constant (F := Ideal) S_ FTy.f32 1232348160#32))
      (Host.negf (Host.divf (mulf (broadcastInDim S64 ![] bcast_S_S64 (constant S_ FTy.f32 1073741824#32))
            (sitofp FTy.f32 (iotaInDim S64 32 0)))
          (broadcastInDim S64 ![] bcast_S_S64 (constant S_ FTy.f32 1124073472#32)))) := by
  entry_read; rfl

/-- Every window's one block starts at the origin. -/
theorem idx : win0_0.index t0_0 = ![0, 0, 0, 0] ∧ win0_1.index t0_0 = ![0, 0, 0] ∧ win0_2.index t0_0 = ![0, 0, 0, 0] ∧ win0_3.index t0_0 = ![0, 0, 0] ∧ win0_4.index t0_0 = ![0, 0, 0, 0] ∧ win0_5.index t0_0 = ![0, 0, 0] ∧ win0_6.index t0_0 = ![0, 0, 0, 0] ∧ win0_7.index t0_0 = ![0, 0, 0] ∧ win0_8.index t0_0 = ![0] ∧ win0_9.index t0_0 = ![0] ∧ win0_10.index t0_0 = ![0, 0] ∧ win0_11.index t0_0 = ![0] ∧ win0_12.index t0_0 = ![0] := by decide +kernel

theorem iblk_0 : iblk m c 0 t0_0 = m ((c : Thread nD τ).loc main_arg0) := by blk_ext! [iblk, V, idx]
theorem iblk_1 : iblk m c 1 t0_0 = m ((c : Thread nD τ).loc main_arg1) := by blk_ext! [iblk, V, idx]
theorem iblk_2 : iblk m c 2 t0_0 = m ((c : Thread nD τ).loc main_arg2) := by blk_ext! [iblk, V, idx]
theorem iblk_3 : iblk m c 3 t0_0 = m ((c : Thread nD τ).loc main_arg3) := by blk_ext! [iblk, V, idx]
theorem iblk_4 : iblk m c 4 t0_0 = m ((c : Thread nD τ).loc main_arg4) := by blk_ext! [iblk, V, idx]
theorem iblk_5 : iblk m c 5 t0_0 = m ((c : Thread nD τ).loc main_arg5) := by blk_ext! [iblk, V, idx]
theorem iblk_6 : iblk m c 6 t0_0 = m ((c : Thread nD τ).loc main_arg6) := by blk_ext! [iblk, V, idx]
theorem iblk_7 : iblk m c 7 t0_0 = m ((c : Thread nD τ).loc main_arg7) := by blk_ext! [iblk, V, idx]
theorem iblk_8 : iblk m c 8 t0_0 = m ((c : Thread nD τ).loc main_arg8) := by blk_ext! [iblk, V, idx]
theorem iblk_9 : iblk m c 9 t0_0 = m ((c : Thread nD τ).loc main_arg9) := by blk_ext! [iblk, V, idx]
theorem iblk_10 : iblk m c 10 t0_0 = m ((c : Thread nD τ).loc main_arg10) := by blk_ext! [iblk, V, idx]
theorem iblk_11 : iblk m c 11 t0_0 = m ((c : Thread nD τ).loc main_arg11) := by blk_ext! [iblk, V, idx]
theorem iblk_12 : iblk m c 12 t0_0 = V m c main_v7 := by blk_ext! [iblk, idx]

/-- q's gradient, as an array. -/
theorem final13 : (dats m 0 c).arrAt 13 (cfgs 0).N
    = k0_pay16 (k0_pay2 (m ((c : Thread nD τ).loc main_arg11))) (k0_pay5 (m ((c : Thread nD τ).loc main_arg10)) (V m c main_v7)) (m ((c : Thread nD τ).loc main_arg8)) (k0_pay7 (m ((c : Thread nD τ).loc main_arg4)) (m ((c : Thread nD τ).loc main_arg5))) (k0_pay8 (m ((c : Thread nD τ).loc main_arg0)) (m ((c : Thread nD τ).loc main_arg1)))
        (k0_pay9 (m ((c : Thread nD τ).loc main_arg0)) (m ((c : Thread nD τ).loc main_arg1))) (k0_pay10 (m ((c : Thread nD τ).loc main_arg10)) (V m c main_v7) (m ((c : Thread nD τ).loc main_arg0)) (m ((c : Thread nD τ).loc main_arg1))) (k0_pay11 (m ((c : Thread nD τ).loc main_arg10)) (V m c main_v7)) := by
  refine (dats m 0 c).arrAt_eq_of_after_last 13 t0_0 (by decide +kernel) _ fun j => ?_
  blk_simp; rw [after0_13]; frame_out
  simp (disch := decide) only [k0_pay23, k0_pay24, k0_pay25, k0_pay26, k0_pay27, k0_pay28, k0_pay29, k0_pay30, r0_0, r0_1, r0_2, r0_3, r0_4, r0_5, r0_6, r0_7, View.ld_unit_lit', iblk_0, iblk_1, iblk_2, iblk_3, iblk_4, iblk_5, iblk_6, iblk_7, iblk_8, iblk_9, iblk_10, iblk_11, iblk_12]

/-- k's gradient, as an array. -/
theorem final14 : (dats m 0 c).arrAt 14 (cfgs 0).N
    = k0_pay1 (k0_pay2 (m ((c : Thread nD τ).loc main_arg11))) (k0_pay18 (k0_pay4 (m ((c : Thread nD τ).loc main_arg10)) (V m c main_v7)) (k0_pay5 (m ((c : Thread nD τ).loc main_arg10)) (V m c main_v7)) (m ((c : Thread nD τ).loc main_arg2)) (m ((c : Thread nD τ).loc main_arg3)))
        (k0_pay19 (m ((c : Thread nD τ).loc main_arg6)) (m ((c : Thread nD τ).loc main_arg7))) (k0_pay20 (m ((c : Thread nD τ).loc main_arg6)) (m ((c : Thread nD τ).loc main_arg7))) (k0_pay22 (m ((c : Thread nD τ).loc main_arg9))) := by
  refine (dats m 0 c).arrAt_eq_of_after_last 14 t0_0 (by decide +kernel) _ fun j => ?_
  blk_simp; rw [after0_14]; frame_out
  simp (disch := decide) only [k0_pay23, k0_pay24, k0_pay25, k0_pay26, k0_pay27, k0_pay28, k0_pay29, k0_pay30, r0_0, r0_1, r0_2, r0_3, r0_4, r0_5, r0_6, r0_7, View.ld_unit_lit', iblk_0, iblk_1, iblk_2, iblk_3, iblk_4, iblk_5, iblk_6, iblk_7, iblk_8, iblk_9, iblk_10, iblk_11, iblk_12]

/-- The gradient of q's gains, as an array. -/
theorem final15 : (dats m 0 c).arrAt 15 (cfgs 0).N
    = k0_pay15 (k0_pay2 (m ((c : Thread nD τ).loc main_arg11))) (k0_pay5 (m ((c : Thread nD τ).loc main_arg10)) (V m c main_v7)) (k0_pay7 (m ((c : Thread nD τ).loc main_arg4)) (m ((c : Thread nD τ).loc main_arg5))) (k0_pay8 (m ((c : Thread nD τ).loc main_arg0)) (m ((c : Thread nD τ).loc main_arg1)))
        (k0_pay9 (m ((c : Thread nD τ).loc main_arg0)) (m ((c : Thread nD τ).loc main_arg1))) (k0_pay10 (m ((c : Thread nD τ).loc main_arg10)) (V m c main_v7) (m ((c : Thread nD τ).loc main_arg0)) (m ((c : Thread nD τ).loc main_arg1))) (k0_pay11 (m ((c : Thread nD τ).loc main_arg10)) (V m c main_v7)) := by
  refine (dats m 0 c).arrAt_eq_of_after_last 15 t0_0 (by decide +kernel) _ fun j => ?_
  blk_simp; rw [after0_15]; frame_out
  simp (disch := decide) only [k0_pay23, k0_pay24, k0_pay25, k0_pay26, k0_pay27, k0_pay28, k0_pay29, k0_pay30, r0_0, r0_1, r0_2, r0_3, r0_4, r0_5, r0_6, r0_7, View.ld_unit_lit', iblk_0, iblk_1, iblk_2, iblk_3, iblk_4, iblk_5, iblk_6, iblk_7, iblk_8, iblk_9, iblk_10, iblk_11, iblk_12]

/-- The gradient of k's gains, as an array. -/
theorem final16 : (dats m 0 c).arrAt 16 (cfgs 0).N
    = k0_pay21 (k0_pay2 (m ((c : Thread nD τ).loc main_arg11))) (k0_pay4 (m ((c : Thread nD τ).loc main_arg10)) (V m c main_v7)) (k0_pay5 (m ((c : Thread nD τ).loc main_arg10)) (V m c main_v7)) (m ((c : Thread nD τ).loc main_arg2)) (m ((c : Thread nD τ).loc main_arg3)) (m ((c : Thread nD τ).loc main_arg6)) (m ((c : Thread nD τ).loc main_arg7)) := by
  refine (dats m 0 c).arrAt_eq_of_after_last 16 t0_0 (by decide +kernel) _ fun j => ?_
  blk_simp; rw [after0_16]; frame_out
  simp (disch := decide) only [k0_pay23, k0_pay24, k0_pay25, k0_pay26, k0_pay27, k0_pay28, k0_pay29, k0_pay30, r0_0, r0_1, r0_2, r0_3, r0_4, r0_5, r0_6, r0_7, View.ld_unit_lit', iblk_0, iblk_1, iblk_2, iblk_3, iblk_4, iblk_5, iblk_6, iblk_7, iblk_8, iblk_9, iblk_10, iblk_11, iblk_12]

end Cert.ReferenceIdeal.Value
-- ==== Proof.Pre.lean ====
module

public import proofs.«01_k».proof.Defs
public import Idealize.ShloMosaic.Lib.Pointwise

@[expose] public section

set_option maxRecDepth 16384
noncomputable section
open Idealize.ShloMosaic Idealize.ShloMosaic.TcCoe Idealize.SL.Sem
namespace Cert.Pre_rounding_up_fits

/-! What the precondition says. -/

theorem facts : Facts := ⟨by decide, by decide, by decide⟩
variable [Facts]

/-- It bounds every sequence's length. -/
theorem le_of_fn (a0 : FVec Ideal S4x8192x40x128 .fp8e5m2) (a1 : FVec Ideal S4x8192x40 .f32) (a2 : FVec Ideal S4x8192x8x128 .fp8e5m2) (a3 : FVec Ideal S4x8192x8 .f32)
    (a4 : FVec Ideal S4x8192x40x128 .fp8e4m3) (a5 : FVec Ideal S4x8192x40 .f32) (a6 : FVec Ideal S4x8192x8x128 .fp8e4m3) (a7 : FVec Ideal S4x8192x8 .f32)
    (a8 a9 : FVec Ideal S128 .f32) (a10 : IVec S4x8192 32) (n : IVec S4 32)
    (h : fn a0 a1 a2 a3 a4 a5 a6 a7 a8 a9 a10 n = fun _ => 1#1) (b : Fin 4) : (n (ix1 b)).toInt ≤ 2147483584 := by
  have e := congrFun h (fun a => a.elim0)
  revert e
  pointwise [fn]
  intro e
  rw [← Finset.insert_erase (Finset.mem_univ b), Finset.fold_insert (Finset.notMem_erase b _)] at e
  have both : ∀ x y : BitVec 1, IntOp.andi x y = 1#1 → x = 1#1 := by decide
  have e1 : BitVec.ofBool ((n (ix1 b)).sle 2147483584#32) = 1#1 := both _ _ e
  have e2 : (n (ix1 b)).sle 2147483584#32 = true := by
    revert e1; cases (n (ix1 b)).sle 2147483584#32 <;> decide
  exact of_decide_eq_true e2
end Cert.Pre_rounding_up_fits
-- ==== Proof.Value.lean ====
module

public import proofs.«01_k».proof.Proof.KSum
public import proofs.«01_k».proof.Proof.RArr
public import proofs.«01_k».proof.Proof.Pre

@[expose] public section

set_option maxRecDepth 16384
noncomputable section
open Idealize.ShloMosaic Idealize.ShloMosaic.TcCoe Idealize.SL.Sem
namespace Cert.Equal
open Cert.Row Cert.KernelIdeal.Run

/-! The kernel's four results are the reference's. -/

variable (m : (ℓ : Loc KernelIdeal.nD KernelIdeal.τ KernelIdeal.sig) → Buf (Elt Ideal) ℓ) (c : Dev KernelIdeal.nD)
  (hn : ∀ b : Fin 4, (show BitVec 32 from m ((c : Thread KernelIdeal.nD KernelIdeal.τ).loc KernelIdeal.main_arg11) (ix1 b)).toInt ≤ 2147483584)
  (m' : (ℓ : Loc ReferenceIdeal.nD ReferenceIdeal.τ ReferenceIdeal.sig) → Buf (Elt Ideal) ℓ)
  (h0 : m' ((c : Thread ReferenceIdeal.nD ReferenceIdeal.τ).loc ReferenceIdeal.main_arg0) = m ((c : Thread KernelIdeal.nD KernelIdeal.τ).loc KernelIdeal.main_arg0))
  (h1 : m' ((c : Thread ReferenceIdeal.nD ReferenceIdeal.τ).loc ReferenceIdeal.main_arg1) = m ((c : Thread KernelIdeal.nD KernelIdeal.τ).loc KernelIdeal.main_arg1))
  (h2 : m' ((c : Thread ReferenceIdeal.nD ReferenceIdeal.τ).loc ReferenceIdeal.main_arg2) = m ((c : Thread KernelIdeal.nD KernelIdeal.τ).loc KernelIdeal.main_arg2))
  (h3 : m' ((c : Thread ReferenceIdeal.nD ReferenceIdeal.τ).loc ReferenceIdeal.main_arg3) = m ((c : Thread KernelIdeal.nD KernelIdeal.τ).loc KernelIdeal.main_arg3))
  (h4 : m' ((c : Thread ReferenceIdeal.nD ReferenceIdeal.τ).loc ReferenceIdeal.main_arg4) = m ((c : Thread KernelIdeal.nD KernelIdeal.τ).loc KernelIdeal.main_arg4))
  (h5 : m' ((c : Thread ReferenceIdeal.nD ReferenceIdeal.τ).loc ReferenceIdeal.main_arg5) = m ((c : Thread KernelIdeal.nD KernelIdeal.τ).loc KernelIdeal.main_arg5))
  (h6 : m' ((c : Thread ReferenceIdeal.nD ReferenceIdeal.τ).loc ReferenceIdeal.main_arg6) = m ((c : Thread KernelIdeal.nD KernelIdeal.τ).loc KernelIdeal.main_arg6))
  (h7 : m' ((c : Thread ReferenceIdeal.nD ReferenceIdeal.τ).loc ReferenceIdeal.main_arg7) = m ((c : Thread KernelIdeal.nD KernelIdeal.τ).loc KernelIdeal.main_arg7))
  (h8 : m' ((c : Thread ReferenceIdeal.nD ReferenceIdeal.τ).loc ReferenceIdeal.main_arg8) = m ((c : Thread KernelIdeal.nD KernelIdeal.τ).loc KernelIdeal.main_arg8))
  (h9 : m' ((c : Thread ReferenceIdeal.nD ReferenceIdeal.τ).loc ReferenceIdeal.main_arg9) = m ((c : Thread KernelIdeal.nD KernelIdeal.τ).loc KernelIdeal.main_arg9))
  (h10 : m' ((c : Thread ReferenceIdeal.nD ReferenceIdeal.τ).loc ReferenceIdeal.main_arg10) = m ((c : Thread KernelIdeal.nD KernelIdeal.τ).loc KernelIdeal.main_arg10))
  (h11 : m' ((c : Thread ReferenceIdeal.nD ReferenceIdeal.τ).loc ReferenceIdeal.main_arg11) = m ((c : Thread KernelIdeal.nD KernelIdeal.τ).loc KernelIdeal.main_arg11))

/-- Arrays of 128 lanes agree when they do at every lane. -/
theorem lanes_ext {X Y : KernelIdeal.S128.Idx → EReal} (h : ∀ j : Fin 128, X (ix1 j) = Y (ix1 j)) : X = Y := by
  funext i
  idx_vars i
  exact h i0

/-- Both programs compute the same frequencies. -/
theorem freq : ReferenceIdeal.Gen.V m' c ReferenceIdeal.main_v7 = inv := (ReferenceIdeal.Value.freq_eq m' c).trans rfl

include hn h0 h1 h4 h5 h8 h10 h11 in
/-- q's gradient; -/
theorem res0 : (ReferenceIdeal.Gen.dats m' 0 c).arrAt 13 (ReferenceIdeal.cfgs 0).N = Vend m c KernelIdeal.main_v13_0 := by
  refine (ReferenceIdeal.Value.final13 m' c).trans (Eq.symm ((Vend_v13_0 m c).trans (arr_12 m c hn _ fun b s h j => ?_)))
  rw [freq, h0, h1, h4, h5, h8, h10, h11]
  exact ReferenceIdeal.Value.outQ_at _ _ _ _ _ _ _ _ b s h j

include hn h2 h3 h6 h7 h9 h10 h11 in
/-- k's gradient; -/
theorem res1 : (ReferenceIdeal.Gen.dats m' 0 c).arrAt 14 (ReferenceIdeal.cfgs 0).N = Vend m c KernelIdeal.main_v13_1 := by
  refine (ReferenceIdeal.Value.final14 m' c).trans (Eq.symm ((Vend_v13_1 m c).trans (arr_13 m c hn _ fun b s h j => ?_)))
  rw [freq, h2, h3, h6, h7, h9, h10, h11]
  exact ReferenceIdeal.Value.outK_at _ _ _ _ _ _ _ _ b s h j

include hn h0 h1 h4 h5 h10 h11 in
/-- the gradient of q's gains; -/
theorem res2 : (ReferenceIdeal.Gen.dats m' 0 c).arrAt 15 (ReferenceIdeal.cfgs 0).N = Vend m c KernelIdeal.main_v14 := by
  refine (ReferenceIdeal.Value.final15 m' c).trans ?_
  rw [freq, h0, h1, h4, h5, h10, h11]
  exact lanes_ext fun j => (ReferenceIdeal.Value.sumQ_at _ _ _ _ _ _ _ j).trans (gains_q m c hn j).symm

include hn h2 h3 h6 h7 h10 h11 in
/-- the gradient of k's gains. -/
theorem res3 : (ReferenceIdeal.Gen.dats m' 0 c).arrAt 16 (ReferenceIdeal.cfgs 0).N = Vend m c KernelIdeal.main_v15 := by
  refine (ReferenceIdeal.Value.final16 m' c).trans ?_
  rw [freq, h2, h3, h6, h7, h10, h11]
  exact lanes_ext fun j => (ReferenceIdeal.Value.sumK_at _ _ _ _ _ _ _ j).trans (gains_k m c hn j).symm
end Cert.Equal
-- ==== Proof.lean ====
module

public import proofs.«01_k».proof.Defs
public import proofs.«01_k».proof.Proof.KernelFrame
public import proofs.«01_k».proof.Proof.KernelIdealFrame
public import proofs.«01_k».proof.Proof.Value
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's four results: two arrays of the region and two sums the host adds up after it. -/
theorem kernel_results (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v13_0) = KernelIdeal.Run.Vend m c KernelIdeal.main_v13_0
      ∧ r.2.mem ((c.tc : Thread KernelIdeal.nD KernelIdeal.τ).loc KernelIdeal.main_v13_1) = KernelIdeal.Run.Vend m c KernelIdeal.main_v13_1
      ∧ r.2.mem ((c.tc : Thread KernelIdeal.nD KernelIdeal.τ).loc KernelIdeal.main_v14) = KernelIdeal.Run.Vend m c KernelIdeal.main_v14
      ∧ r.2.mem ((c.tc : Thread KernelIdeal.nD KernelIdeal.τ).loc KernelIdeal.main_v15) = KernelIdeal.Run.Vend m c KernelIdeal.main_v15) :=
  (θ_run KernelIdeal.defs _ _).mono (fun _ h c => ⟨((h.1 c).1 12).trans (KernelIdeal.Run.Vend_v13_0 m c).symm,
      ((h.1 c).1 13).trans (KernelIdeal.Run.Vend_v13_1 m c).symm,
      (h.1 c).2 KernelIdeal.main_v14 (Pipeline.mem_restRefs_of (win := KernelIdeal.spec0) KernelIdeal.main_v14 rfl (by decide)),
      (h.1 c).2 KernelIdeal.main_v15 (Pipeline.mem_restRefs_of (win := KernelIdeal.spec0) KernelIdeal.main_v15 rfl (by decide))⟩)
    (KernelIdeal.Run.run_main_quiescent m g)

theorem algebraic : algebraic_KernelIdeal_ReferenceIdeal_pre_rounding_up_fits (hKernelIdeal := KernelIdeal.Gen.facts)
    (hReferenceIdeal := ReferenceIdeal.Gen.facts) (hPre_rounding_up_fits := Pre_rounding_up_fits.facts) := by
  intro m g m' g' hpre hagree
  have hn : ∀ (c : Dev KernelIdeal.nD) (b : Fin 4), (show BitVec 32 from m ((c : Thread KernelIdeal.nD KernelIdeal.τ).loc KernelIdeal.main_arg11) (ix1 b)).toInt ≤ 2147483584 :=
    fun c b => @Pre_rounding_up_fits.le_of_fn Pre_rounding_up_fits.facts _ _ _ _ _ _ _ _ _ _ _ _ (hpre c) b
  refine ⟨fun c => KernelIdeal.Run.Vend m c KernelIdeal.main_v13_0, fun c => KernelIdeal.Run.Vend m c KernelIdeal.main_v13_1,
    fun c => KernelIdeal.Run.Vend m c KernelIdeal.main_v14, fun c => KernelIdeal.Run.Vend m c KernelIdeal.main_v15, ?_, ?_⟩
  · refine (θ_run KernelIdeal.defs _ _).mono (fun r h c => ?_) (θ_run_and (kernel_results m g) (KernelIdeal.Run.frame m g))
    obtain ⟨e0, e1, e2, e3⟩ := h.1 c
    exact ⟨e0, e1, e2, e3, h.2.1 c⟩
  · refine (θ_run ReferenceIdeal.defs _ _).mono (fun r h c => ?_) (θ_run_and (ReferenceIdeal.Gen.run_main m' g') (ReferenceIdeal.Gen.frame m' g'))
    obtain ⟨h0, h1, h2, h3, h4, h5, h6, h7, h8, h9, h10, h11⟩ := hagree c
    exact ⟨((h.1 c).1 13).trans (Equal.res0 m c (hn c) m' h0 h1 h4 h5 h8 h10 h11),
      ((h.1 c).1 14).trans (Equal.res1 m c (hn c) m' h2 h3 h6 h7 h9 h10 h11),
      ((h.1 c).1 15).trans (Equal.res2 m c (hn c) m' h0 h1 h4 h5 h10 h11),
      ((h.1 c).1 16).trans (Equal.res3 m c (hn c) m' h2 h3 h6 h7 h10 h11), h.2.1 c⟩

theorem claim : Cert.Claim := ⟨Cert.Kernel.Gen.facts, Cert.KernelIdeal.Gen.facts, Cert.ReferenceIdeal.Gen.facts, Cert.Pre_rounding_up_fits.facts,
  fun m ρ _ => Cert.Kernel.Run.frame m ρ, fun m ρ _ => Cert.KernelIdeal.Run.frame m ρ, fun m ρ _ => Cert.KernelIdeal.Run.frame m ρ,
  fun m ρ _ => Cert.ReferenceIdeal.Gen.frame m ρ, fun m ρ _ => Cert.ReferenceIdeal.Gen.frame m ρ, trivial, algebraic⟩

end Cert.Proof

end
